-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_initialised [hPre_zero_initialised : Cert.Pre_zero_initialised.Facts] (m : (ℓ : Loc Cert.KernelIdeal.nD Cert.KernelIdeal.τ Cert.KernelIdeal.sig) → Buf (Elt Ideal) ℓ) : Prop :=
  ∀ c : Dev Cert.KernelIdeal.nD,
    (Cert.Pre_zero_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_zero_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_zero_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_zero_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_zero_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_zero_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_zero_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_zero_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_zero_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_zero_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_initialised [hPre_zero_initialised : Cert.Pre_zero_initialised.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_zero_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_zero_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_zero_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_zero_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_zero_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_zero_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_zero_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_zero_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_zero_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_zero_initialised [hKernelIdeal : Cert.KernelIdeal.Facts] [hPre_zero_initialised : Cert.Pre_zero_initialised.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_initialised m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_zero_initialised [hReferenceIdeal : Cert.ReferenceIdeal.Facts] [hPre_zero_initialised : Cert.Pre_zero_initialised.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_initialised m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_zero_initialised [hKernelIdeal : Cert.KernelIdeal.Facts] [hReferenceIdeal : Cert.ReferenceIdeal.Facts] [hPre_zero_initialised : Cert.Pre_zero_initialised.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_initialised m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v471) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_zero_initialised : Cert.Pre_zero_initialised.Facts),
    quiescent_Kernel (hKernel := hKernel)
    ∧ quiescent_KernelIdeal (hKernelIdeal := hKernelIdeal)
    ∧ quiescent_KernelIdeal_pre_zero_initialised (hKernelIdeal := hKernelIdeal) (hPre_zero_initialised := hPre_zero_initialised)
    ∧ quiescent_ReferenceIdeal (hReferenceIdeal := hReferenceIdeal)
    ∧ quiescent_ReferenceIdeal_pre_zero_initialised (hReferenceIdeal := hReferenceIdeal) (hPre_zero_initialised := hPre_zero_initialised)
    ∧ preserves_Kernel_KernelIdeal
    ∧ algebraic_KernelIdeal_ReferenceIdeal_pre_zero_initialised (hKernelIdeal := hKernelIdeal) (hReferenceIdeal := hReferenceIdeal) (hPre_zero_initialised := hPre_zero_initialised)
-- ==== Pre_zero_initialised.lean ====
abbrev S16x1024x96 : Shape := ⟨3, ![16, 1024, 96]⟩
abbrev S_ : Shape := ⟨0, ![]⟩
abbrev S96x96 : Shape := ⟨2, ![96, 96]⟩
abbrev S96 : Shape := ⟨1, ![96]⟩
abbrev S54x96 : Shape := ⟨2, ![54, 96]⟩
abbrev S54 : Shape := ⟨1, ![54]⟩
abbrev S192x96 : Shape := ⟨2, ![192, 96]⟩
abbrev S192 : Shape := ⟨1, ![192]⟩

class Facts : Prop where
  bcast_S_S54x96 : S_.BroadcastsInDim S54x96 (![] : Fin 0 → Fin S54x96.rank)
  bcast_S_S54 : S_.BroadcastsInDim S54 (![] : Fin 0 → Fin S54.rank)
  slices_S192_S96_96 : S192.Slices ![96] S96
  bcast_S_S96 : S_.BroadcastsInDim S96 (![] : Fin 0 → Fin S96.rank)
  bcast_S_S16x1024x96 : S_.BroadcastsInDim S16x1024x96 (![] : Fin 0 → Fin S16x1024x96.rank)
  bcast_S_S96x96 : S_.BroadcastsInDim S96x96 (![] : Fin 0 → Fin S96x96.rank)
  slices_S192x96_S96x96_0_0 : S192x96.Slices ![0, 0] S96x96
  slices_S192_S96_0 : S192.Slices ![0] S96

variable [Facts]

def fn_part1 {F : FTy → Type} [FloatOps F] (main_arg4 : FVec F S96 .f32) (main_arg7 : FVec F S192x96 .f32) (main_arg8 : FVec F S192 .f32) (main_v2 : IVec S_ 1) (main_v4 : IVec S54x96 1) (main_v6 : IVec S54 1) (main_v9 : IVec S96 1) (main_v11 : IVec S96 1) (main_v14 : IVec S16x1024x96 1) (main_v15 : FVec F S96x96 .f32) (main_cst_5 : FVec F S_ .f32) : IVec S_ 1 × IVec S54x96 1 × IVec S54 1 × IVec S96 1 × IVec S96 1 × IVec S16x1024x96 1 × IVec S96x96 1 × IVec S96 1 × IVec S96x96 1 × IVec S96 1 :=
  let main_v16 : FVec F S96x96 .f32 := broadcastInDim S96x96 ![] bcast_S_S96x96 main_cst_5
  let main_v17 : IVec S96x96 1 := cmpf .olt main_v15 main_v16
  let main_v18 : FVec F S96 .f32 := Host.absf main_arg4
  let main_cst_6 : FVec F S_ .f32 := constant S_ .f32 0x7F800000#32
  let main_v19 : FVec F S96 .f32 := broadcastInDim S96 ![] bcast_S_S96 main_cst_6
  let main_v20 : IVec S96 1 := cmpf .olt main_v18 main_v19
  let main_v21 : FVec F S96x96 .f32 := (extractStridedSlice S96x96 ![0, 0] · slices_S192x96_S96x96_0_0) main_arg7
  let main_v22 : FVec F S96x96 .f32 := Host.absf main_v21
  let main_cst_7 : FVec F S_ .f32 := constant S_ .f32 0x7F800000#32
  let main_v23 : FVec F S96x96 .f32 := broadcastInDim S96x96 ![] bcast_S_S96x96 main_cst_7
  let main_v24 : IVec S96x96 1 := cmpf .olt main_v22 main_v23
  let main_v25 : FVec F S96 .f32 := (extractStridedSlice S96 ![0] · slices_S192_S96_0) main_arg8
  let main_v26 : FVec F S96 .f32 := Host.absf main_v25
  let main_cst_8 : FVec F S_ .f32 := constant S_ .f32 0x7F800000#32
  let main_v27 : FVec F S96 .f32 := broadcastInDim S96 ![] bcast_S_S96 main_cst_8
  let main_v28 : IVec S96 1 := cmpf .olt main_v26 main_v27
  (main_v2, main_v4, main_v6, main_v9, main_v11, main_v14, main_v17, main_v20, main_v24, main_v28)

def fn {F : FTy → Type} [FloatOps F] (main_arg0 : FVec F S16x1024x96 .f32) (main_arg1 : IVec S_ 32) (main_arg2 : IVec S_ 32) (main_arg3 : FVec F S96x96 .f32) (main_arg4 : FVec F S96 .f32) (main_arg5 : FVec F S54x96 .f32) (main_arg6 : FVec F S54 .f32) (main_arg7 : FVec F S192x96 .f32) (main_arg8 : FVec F S192 .f32) (main_arg9 : FVec F S96x96 .f32) (main_arg10 : FVec F S96 .f32) : IVec S_ 1 × IVec S54x96 1 × IVec S54 1 × IVec S96 1 × IVec S96 1 × IVec S16x1024x96 1 × IVec S96x96 1 × IVec S96 1 × IVec S96x96 1 × IVec S96 1 :=
  let main_c : IVec S_ 32 := constantI S_ 32 32#32
  let main_v0 : IVec S_ 1 := cmpi .eq main_arg1 main_c
  let main_c_0 : IVec S_ 32 := constantI S_ 32 32#32
  let main_v1 : IVec S_ 1 := cmpi .eq main_arg2 main_c_0
  let main_v2 : IVec S_ 1 := andi main_v0 main_v1
  let main_cst : FVec F S_ .f32 := constant S_ .f32 0x00000000#32
  let main_v3 : FVec F S54x96 .f32 := broadcastInDim S54x96 ![] bcast_S_S54x96 main_cst
  let main_v4 : IVec S54x96 1 := cmpf .oeq main_arg5 main_v3
  let main_cst_1 : FVec F S_ .f32 := constant S_ .f32 0x00000000#32
  let main_v5 : FVec F S54 .f32 := broadcastInDim S54 ![] bcast_S_S54 main_cst_1
  let main_v6 : IVec S54 1 := cmpf .oeq main_arg6 main_v5
  let main_v7 : FVec F S96 .f32 := (extractStridedSlice S96 ![96] · slices_S192_S96_96) main_arg8
  let main_cst_2 : FVec F S_ .f32 := constant S_ .f32 0x00000000#32
  let main_v8 : FVec F S96 .f32 := broadcastInDim S96 ![] bcast_S_S96 main_cst_2
  let main_v9 : IVec S96 1 := cmpf .oeq main_v7 main_v8
  let main_cst_3 : FVec F S_ .f32 := constant S_ .f32 0x00000000#32
  let main_v10 : FVec F S96 .f32 := broadcastInDim S96 ![] bcast_S_S96 main_cst_3
  let main_v11 : IVec S96 1 := cmpf .oeq main_arg10 main_v10
  let main_v12 : FVec F S16x1024x96 .f32 := Host.absf main_arg0
  let main_cst_4 : FVec F S_ .f32 := constant S_ .f32 0x7F800000#32
  let main_v13 : FVec F S16x1024x96 .f32 := broadcastInDim S16x1024x96 ![] bcast_S_S16x1024x96 main_cst_4
  let main_v14 : IVec S16x1024x96 1 := cmpf .olt main_v12 main_v13
  let main_v15 : FVec F S96x96 .f32 := Host.absf main_arg3
  let main_cst_5 : FVec F S_ .f32 := constant S_ .f32 0x7F800000#32
  fn_part1 (F := F) main_arg4 main_arg7 main_arg8 main_v2 main_v4 main_v6 main_v9 main_v11 main_v14 main_v15 main_cst_5
-- ==== Kernel.lean ====
abbrev S16x1024x96 : Shape := ⟨3, ![16, 1024, 96]⟩
abbrev S_ : Shape := ⟨0, ![]⟩
abbrev S96x96 : Shape := ⟨2, ![96, 96]⟩
abbrev S96 : Shape := ⟨1, ![96]⟩
abbrev S54x96 : Shape := ⟨2, ![54, 96]⟩
abbrev S54 : Shape := ⟨1, ![54]⟩
abbrev S192x96 : Shape := ⟨2, ![192, 96]⟩
abbrev S192 : Shape := ⟨1, ![192]⟩
abbrev S8x1024x96 : Shape := ⟨3, ![8, 1024, 96]⟩
abbrev S8192x96 : Shape := ⟨2, ![8192, 96]⟩

abbrev nBuf : Space → Nat
  | .hbm => 12
  | .vmem => 6
  | .smem => 0
  | _ => 0

abbrev bufTy : (tb : Table) → Fin (tcTables nBuf tb) → BufTy
  | .hbm, ⟨0, _⟩ => ⟨S16x1024x96, .f32⟩
  | .hbm, ⟨1, _⟩ => ⟨S_, .i32⟩
  | .hbm, ⟨2, _⟩ => ⟨S_, .i32⟩
  | .hbm, ⟨3, _⟩ => ⟨S96x96, .f32⟩
  | .hbm, ⟨4, _⟩ => ⟨S96, .f32⟩
  | .hbm, ⟨5, _⟩ => ⟨S54x96, .f32⟩
  | .hbm, ⟨6, _⟩ => ⟨S54, .f32⟩
  | .hbm, ⟨7, _⟩ => ⟨S192x96, .f32⟩
  | .hbm, ⟨8, _⟩ => ⟨S192, .f32⟩
  | .hbm, ⟨9, _⟩ => ⟨S96x96, .f32⟩
  | .hbm, ⟨10, _⟩ => ⟨S96, .f32⟩
  | .hbm, ⟨11, _⟩ => ⟨S16x1024x96, .f32⟩
  | .local _ .vmem, ⟨0, _⟩ => ⟨S8x1024x96, .f32⟩
  | .local _ .vmem, ⟨1, _⟩ => ⟨S8x1024x96, .f32⟩
  | .local _ .vmem, ⟨2, _⟩ => ⟨S96x96, .f32⟩
  | .local _ .vmem, ⟨3, _⟩ => ⟨S96x96, .f32⟩
  | .local _ .vmem, ⟨4, _⟩ => ⟨S8x1024x96, .f32⟩
  | .local _ .vmem, ⟨5, _⟩ => ⟨S8x1024x96, .f32⟩
  | _, _ => ⟨S16x1024x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x1024x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x1024x96 : Shape := ⟨3, ![16, 1024, 96]⟩
abbrev S_ : Shape := ⟨0, ![]⟩
abbrev S96x96 : Shape := ⟨2, ![96, 96]⟩
abbrev S96 : Shape := ⟨1, ![96]⟩
abbrev S54x96 : Shape := ⟨2, ![54, 96]⟩
abbrev S54 : Shape := ⟨1, ![54]⟩
abbrev S192x96 : Shape := ⟨2, ![192, 96]⟩
abbrev S192 : Shape := ⟨1, ![192]⟩
abbrev S1x1x96 : Shape := ⟨3, ![1, 1, 96]⟩
abbrev S16x1024x3x32 : Shape := ⟨4, ![16, 1024, 3, 32]⟩
abbrev S16x3x1024x32 : Shape := ⟨4, ![16, 3, 1024, 32]⟩
abbrev S96x54 : Shape := ⟨2, ![96, 54]⟩
abbrev S16x1024x54 : Shape := ⟨3, ![16, 1024, 54]⟩
abbrev S1x1x54 : Shape := ⟨3, ![1, 1, 54]⟩
abbrev S16x1024x3x9x2 : Shape := ⟨5, ![16, 1024, 3, 9, 2]⟩
abbrev S96x192 : Shape := ⟨2, ![96, 192]⟩
abbrev S16x1024x192 : Shape := ⟨3, ![16, 1024, 192]⟩
abbrev S1x1x192 : Shape := ⟨3, ![1, 1, 192]⟩
abbrev S1024 : Shape := ⟨1, ![1024]⟩
abbrev S1024x1 : Shape := ⟨2, ![1024, 1]⟩
abbrev S1024x2 : Shape := ⟨2, ![1024, 2]⟩
abbrev S1x1024x1x1x2 : Shape := ⟨5, ![1, 1024, 1, 1, 2]⟩
abbrev S1 : Shape := ⟨1, ![1]⟩
abbrev S2 : Shape := ⟨1, ![2]⟩
abbrev S1x1x1x1x2 : Shape := ⟨5, ![1, 1, 1, 1, 2]⟩
abbrev S16x3x1024x9x2 : Shape := ⟨5, ![16, 3, 1024, 9, 2]⟩
abbrev S16x3x9216x2 : Shape := ⟨4, ![16, 3, 9216, 2]⟩
abbrev S16x3x9216x1 : Shape := ⟨4, ![16, 3, 9216, 1]⟩
abbrev S16x3x9216 : Shape := ⟨3, ![16, 3, 9216]⟩
abbrev S16x3x9216x32 : Shape := ⟨4, ![16, 3, 9216, 32]⟩
abbrev S16x3x9216x32x1 : Shape := ⟨5, ![16, 3, 9216, 32, 1]⟩
abbrev S1x1x1x1x1 : Shape := ⟨5, ![1, 1, 1, 1, 1]⟩
abbrev S16x3x1024x9x32 : Shape := ⟨5, ![16, 3, 1024, 9, 32]⟩
abbrev S16x3x1024x9 : Shape := ⟨4, ![16, 3, 1024, 9]⟩
abbrev S16x3x1024 : Shape := ⟨3, ![16, 3, 1024]⟩
abbrev S16x3x1024x1 : Shape := ⟨4, ![16, 3, 1024, 1]⟩

abbrev nBuf : Space → Nat
  | .hbm => 878
  | .vmem => 0
  | .smem => 0
  | _ => 0

abbrev hbmTy0_0 (i : Nat) : BufTy := match i % 128 with
  | 0 => ⟨S16x1024x96, .f32⟩
  | 1 => ⟨S_, .i32⟩
  | 2 => ⟨S_, .i32⟩
  | 3 => ⟨S96x96, .f32⟩
  | 4 => ⟨S96, .f32⟩
  | 5 => ⟨S54x96, .f32⟩
  | 6 => ⟨S54, .f32⟩
  | 7 => ⟨S192x96, .f32⟩
  | 8 => ⟨S192, .f32⟩
  | 9 => ⟨S96x96, .f32⟩
  | 10 => ⟨S96, .f32⟩
  | 11 => ⟨S96x96, .f32⟩
  | 12 => ⟨S16x1024x96, .f32⟩
  | 13 => ⟨S1x1x96, .f32⟩
  | 14 => ⟨S16x1024x96, .f32⟩
  | 15 => ⟨S16x1024x96, .f32⟩
  | 16 => ⟨S16x1024x3x32, .f32⟩
  | 17 => ⟨S16x3x1024x32, .f32⟩
  | 18 => ⟨S96x54, .f32⟩
  | 19 => ⟨S16x1024x54, .f32⟩
  | 20 => ⟨S1x1x54, .f32⟩
  | 21 => ⟨S16x1024x54, .f32⟩
  | 22 => ⟨S16x1024x54, .f32⟩
  | 23 => ⟨S16x1024x54, .f32⟩
  | 24 => ⟨S16x1024x3x9x2, .f32⟩
  | 25 => ⟨S_, .f32⟩
  | 26 => ⟨S16x1024x3x9x2, .f32⟩
  | 27 => ⟨S16x1024x3x9x2, .f32⟩
  | 28 => ⟨S96x192, .f32⟩
  | 29 => ⟨S16x1024x192, .f32⟩
  | 30 => ⟨S1x1x192, .f32⟩
  | 31 => ⟨S16x1024x192, .f32⟩
  | 32 => ⟨S16x1024x192, .f32⟩
  | 33 => ⟨S16x1024x96, .f32⟩
  | 34 => ⟨S16x1024x96, .f32⟩
  | 35 => ⟨S16x1024x3x32, .f32⟩
  | 36 => ⟨S16x3x1024x32, .f32⟩
  | 37 => ⟨S16x1024x3x32, .f32⟩
  | 38 => ⟨S16x3x1024x32, .f32⟩
  | 39 => ⟨S1024, .i32⟩
  | 40 => ⟨S_, .i32⟩
  | 41 => ⟨S_, .i1⟩
  | 42 => ⟨S_, .i32⟩
  | 43 => ⟨S_, .i32⟩
  | 44 => ⟨S1024, .i32⟩
  | 45 => ⟨S1024, .i32⟩
  | 46 => ⟨S_, .i32⟩
  | 47 => ⟨S1024, .i32⟩
  | 48 => ⟨S1024, .i1⟩
  | 49 => ⟨S_, .i32⟩
  | 50 => ⟨S1024, .i32⟩
  | 51 => ⟨S1024, .i1⟩
  | 52 => ⟨S_, .i32⟩
  | 53 => ⟨S_, .i1⟩
  | 54 => ⟨S1024, .i1⟩
  | 55 => ⟨S1024, .i1⟩
  | 56 => ⟨S1024, .i1⟩
  | 57 => ⟨S1024, .i32⟩
  | 58 => ⟨S1024, .i32⟩
  | 59 => ⟨S1024, .i32⟩
  | 60 => ⟨S1024, .f32⟩
  | 61 => ⟨S1024, .i32⟩
  | 62 => ⟨S1024, .i32⟩
  | 63 => ⟨S1024, .i32⟩
  | 64 => ⟨S_, .i32⟩
  | 65 => ⟨S1024, .i32⟩
  | 66 => ⟨S1024, .i1⟩
  | 67 => ⟨S1024, .i32⟩
  | 68 => ⟨S1024, .i32⟩
  | 69 => ⟨S_, .i32⟩
  | 70 => ⟨S1024, .i32⟩
  | 71 => ⟨S1024, .i1⟩
  | 72 => ⟨S1024, .i1⟩
  | 73 => ⟨S_, .i32⟩
  | 74 => ⟨S1024, .i32⟩
  | 75 => ⟨S1024, .i32⟩
  | 76 => ⟨S1024, .i32⟩
  | 77 => ⟨S1024, .f32⟩
  | 78 => ⟨S1024x1, .f32⟩
  | 79 => ⟨S1024x1, .f32⟩
  | 80 => ⟨S1024x2, .f32⟩
  | 81 => ⟨S1x1024x1x1x2, .f32⟩
  | 82 => ⟨S16x1024x3x9x2, .f32⟩
  | 83 => ⟨S16x1024x3x9x2, .f32⟩
  | 84 => ⟨S_, .i32⟩
  | 85 => ⟨S_, .i32⟩
  | 86 => ⟨S_, .i32⟩
  | 87 => ⟨S_, .i32⟩
  | 88 => ⟨S_, .f32⟩
  | 89 => ⟨S1, .f32⟩
  | 90 => ⟨S_, .f32⟩
  | 91 => ⟨S1, .f32⟩
  | 92 => ⟨S2, .f32⟩
  | 93 => ⟨S1x1x1x1x2, .f32⟩
  | 94 => ⟨S16x1024x3x9x2, .f32⟩
  | 95 => ⟨S16x1024x3x9x2, .f32⟩
  | 96 => ⟨S_, .f32⟩
  | 97 => ⟨S16x1024x3x9x2, .f32⟩
  | 98 => ⟨S16x1024x3x9x2, .f32⟩
  | 99 => ⟨S_, .f32⟩
  | 100 => ⟨S16x1024x3x9x2, .f32⟩
  | 101 => ⟨S16x1024x3x9x2, .f32⟩
  | 102 => ⟨S16x3x1024x9x2, .f32⟩
  | 103 => ⟨S16x3x9216x2, .f32⟩
  | 104 => ⟨S16x3x9216x1, .f32⟩
  | 105 => ⟨S16x3x9216, .f32⟩
  | 106 => ⟨S_, .f32⟩
  | 107 => ⟨S16x3x9216, .f32⟩
  | 108 => ⟨S16x3x9216, .f32⟩
  | 109 => ⟨S_, .f32⟩
  | 110 => ⟨S16x3x9216, .f32⟩
  | 111 => ⟨S16x3x9216, .f32⟩
  | 112 => ⟨S_, .i32⟩
  | 113 => ⟨S_, .i32⟩
  | 114 => ⟨S_, .f32⟩
  | 115 => ⟨S16x3x9216, .f32⟩
  | 116 => ⟨S16x3x9216, .f32⟩
  | 117 => ⟨S16x3x9216x1, .f32⟩
  | 118 => ⟨S16x3x9216, .f32⟩
  | 119 => ⟨S_, .f32⟩
  | 120 => ⟨S16x3x9216, .f32⟩
  | 121 => ⟨S16x3x9216, .f32⟩
  | 122 => ⟨S_, .f32⟩
  | 123 => ⟨S16x3x9216, .f32⟩
  | 124 => ⟨S16x3x9216, .f32⟩
  | 125 => ⟨S_, .i32⟩
  | 126 => ⟨S_, .i32⟩
  | 127 => ⟨S_, .f32⟩
  | _ => ⟨S16x1024x96, .f32⟩

abbrev hbmTy0_1 (i : Nat) : BufTy := match i % 128 with
  | 0 => ⟨S16x3x9216, .f32⟩
  | 1 => ⟨S16x3x9216, .f32⟩
  | 2 => ⟨S16x3x9216, .f32⟩
  | 3 => ⟨S16x3x9216, .f32⟩
  | 4 => ⟨S_, .f32⟩
  | 5 => ⟨S16x3x9216x32, .f32⟩
  | 6 => ⟨S_, .f32⟩
  | 7 => ⟨S16x3x9216, .f32⟩
  | 8 => ⟨S16x3x9216, .f32⟩
  | 9 => ⟨S_, .f32⟩
  | 10 => ⟨S16x3x9216, .f32⟩
  | 11 => ⟨S16x3x9216, .f32⟩
  | 12 => ⟨S16x3x9216, .f32⟩
  | 13 => ⟨S16x3x9216, .f32⟩
  | 14 => ⟨S_, .f32⟩
  | 15 => ⟨S16x3x9216, .f32⟩
  | 16 => ⟨S16x3x9216, .f32⟩
  | 17 => ⟨S16x3x9216, .f32⟩
  | 18 => ⟨S16x3x9216, .f32⟩
  | 19 => ⟨S_, .f32⟩
  | 20 => ⟨S16x3x9216, .f32⟩
  | 21 => ⟨S16x3x9216, .f32⟩
  | 22 => ⟨S_, .f32⟩
  | 23 => ⟨S16x3x9216, .f32⟩
  | 24 => ⟨S16x3x9216, .i1⟩
  | 25 => ⟨S_, .i32⟩
  | 26 => ⟨S_, .i32⟩
  | 27 => ⟨S_, .f32⟩
  | 28 => ⟨S16x3x9216, .f32⟩
  | 29 => ⟨S16x3x9216, .i1⟩
  | 30 => ⟨S16x3x9216, .i1⟩
  | 31 => ⟨S_, .f32⟩
  | 32 => ⟨S16x3x9216, .f32⟩
  | 33 => ⟨S16x3x9216, .i1⟩
  | 34 => ⟨S16x3x9216, .i1⟩
  | 35 => ⟨S_, .i32⟩
  | 36 => ⟨S_, .i32⟩
  | 37 => ⟨S_, .f32⟩
  | 38 => ⟨S16x3x9216, .f32⟩
  | 39 => ⟨S16x3x9216, .i1⟩
  | 40 => ⟨S16x3x9216, .i1⟩
  | 41 => ⟨S16x3x9216, .f32⟩
  | 42 => ⟨S_, .i32⟩
  | 43 => ⟨S_, .i32⟩
  | 44 => ⟨S_, .i32⟩
  | 45 => ⟨S_, .f32⟩
  | 46 => ⟨S16x3x9216, .f32⟩
  | 47 => ⟨S16x3x9216, .f32⟩
  | 48 => ⟨S_, .f32⟩
  | 49 => ⟨S16x3x9216, .f32⟩
  | 50 => ⟨S16x3x9216, .f32⟩
  | 51 => ⟨S16x3x9216, .i32⟩
  | 52 => ⟨S_, .i32⟩
  | 53 => ⟨S_, .i32⟩
  | 54 => ⟨S_, .i32⟩
  | 55 => ⟨S_, .f32⟩
  | 56 => ⟨S16x3x9216, .f32⟩
  | 57 => ⟨S16x3x9216, .f32⟩
  | 58 => ⟨S_, .f32⟩
  | 59 => ⟨S16x3x9216, .f32⟩
  | 60 => ⟨S16x3x9216, .f32⟩
  | 61 => ⟨S16x3x9216, .i32⟩
  | 62 => ⟨S16x3x9216, .i32⟩
  | 63 => ⟨S16x3x9216, .i32⟩
  | 64 => ⟨S16x3x9216, .i32⟩
  | 65 => ⟨S16x3x9216x1, .i32⟩
  | 66 => ⟨S16x3x9216x32, .i32⟩
  | 67 => ⟨S_, .i32⟩
  | 68 => ⟨S16x3x9216x32, .i32⟩
  | 69 => ⟨S16x3x9216x32, .i1⟩
  | 70 => ⟨S_, .i32⟩
  | 71 => ⟨S16x3x9216x32, .i32⟩
  | 72 => ⟨S16x3x9216x32, .i32⟩
  | 73 => ⟨S16x3x9216x32, .i32⟩
  | 74 => ⟨S16x3x9216x32x1, .i32⟩
  | 75 => ⟨S1, .i32⟩
  | 76 => ⟨S_, .i32⟩
  | 77 => ⟨S16x3x9216x32x1, .i32⟩
  | 78 => ⟨S16x3x9216x32x1, .i1⟩
  | 79 => ⟨S1x1x1x1x1, .i32⟩
  | 80 => ⟨S16x3x9216x32x1, .i32⟩
  | 81 => ⟨S16x3x9216x32x1, .i1⟩
  | 82 => ⟨S16x3x9216x32x1, .i1⟩
  | 83 => ⟨S_, .i1⟩
  | 84 => ⟨S16x3x9216x32, .i1⟩
  | 85 => ⟨S16x3x9216x32, .f32⟩
  | 86 => ⟨S_, .f32⟩
  | 87 => ⟨S16x3x9216x32, .f32⟩
  | 88 => ⟨S16x3x9216x32, .f32⟩
  | 89 => ⟨S16x3x9216, .f32⟩
  | 90 => ⟨S16x3x9216, .f32⟩
  | 91 => ⟨S16x3x9216x1, .f32⟩
  | 92 => ⟨S16x3x9216x32, .f32⟩
  | 93 => ⟨S16x3x9216x32, .f32⟩
  | 94 => ⟨S16x3x9216x32, .f32⟩
  | 95 => ⟨S_, .f32⟩
  | 96 => ⟨S16x3x9216, .f32⟩
  | 97 => ⟨S16x3x9216, .f32⟩
  | 98 => ⟨S_, .f32⟩
  | 99 => ⟨S16x3x9216, .f32⟩
  | 100 => ⟨S16x3x9216, .f32⟩
  | 101 => ⟨S16x3x9216, .f32⟩
  | 102 => ⟨S16x3x9216, .f32⟩
  | 103 => ⟨S_, .f32⟩
  | 104 => ⟨S16x3x9216, .f32⟩
  | 105 => ⟨S16x3x9216, .f32⟩
  | 106 => ⟨S16x3x9216, .f32⟩
  | 107 => ⟨S16x3x9216, .f32⟩
  | 108 => ⟨S_, .f32⟩
  | 109 => ⟨S16x3x9216, .f32⟩
  | 110 => ⟨S16x3x9216, .f32⟩
  | 111 => ⟨S_, .f32⟩
  | 112 => ⟨S16x3x9216, .f32⟩
  | 113 => ⟨S16x3x9216, .i1⟩
  | 114 => ⟨S_, .i32⟩
  | 115 => ⟨S_, .i32⟩
  | 116 => ⟨S_, .f32⟩
  | 117 => ⟨S16x3x9216, .f32⟩
  | 118 => ⟨S16x3x9216, .i1⟩
  | 119 => ⟨S16x3x9216, .i1⟩
  | 120 => ⟨S_, .f32⟩
  | 121 => ⟨S16x3x9216, .f32⟩
  | 122 => ⟨S16x3x9216, .i1⟩
  | 123 => ⟨S16x3x9216, .i1⟩
  | 124 => ⟨S_, .i32⟩
  | 125 => ⟨S_, .i32⟩
  | 126 => ⟨S_, .f32⟩
  | 127 => ⟨S16x3x9216, .f32⟩
  | _ => ⟨S16x1024x96, .f32⟩

abbrev hbmTy0_2 (i : Nat) : BufTy := match i % 128 with
  | 0 => ⟨S16x3x9216, .i1⟩
  | 1 => ⟨S16x3x9216, .i1⟩
  | 2 => ⟨S16x3x9216, .f32⟩
  | 3 => ⟨S_, .i32⟩
  | 4 => ⟨S_, .i32⟩
  | 5 => ⟨S_, .i32⟩
  | 6 => ⟨S_, .f32⟩
  | 7 => ⟨S16x3x9216, .f32⟩
  | 8 => ⟨S16x3x9216, .f32⟩
  | 9 => ⟨S_, .f32⟩
  | 10 => ⟨S16x3x9216, .f32⟩
  | 11 => ⟨S16x3x9216, .f32⟩
  | 12 => ⟨S16x3x9216, .i32⟩
  | 13 => ⟨S_, .i32⟩
  | 14 => ⟨S_, .i32⟩
  | 15 => ⟨S_, .i32⟩
  | 16 => ⟨S_, .f32⟩
  | 17 => ⟨S16x3x9216, .f32⟩
  | 18 => ⟨S16x3x9216, .f32⟩
  | 19 => ⟨S_, .f32⟩
  | 20 => ⟨S16x3x9216, .f32⟩
  | 21 => ⟨S16x3x9216, .f32⟩
  | 22 => ⟨S16x3x9216, .i32⟩
  | 23 => ⟨S16x3x9216, .i32⟩
  | 24 => ⟨S16x3x9216, .i32⟩
  | 25 => ⟨S16x3x9216, .i32⟩
  | 26 => ⟨S16x3x9216x1, .i32⟩
  | 27 => ⟨S16x3x9216x32, .i32⟩
  | 28 => ⟨S_, .i32⟩
  | 29 => ⟨S16x3x9216x32, .i32⟩
  | 30 => ⟨S16x3x9216x32, .i1⟩
  | 31 => ⟨S_, .i32⟩
  | 32 => ⟨S16x3x9216x32, .i32⟩
  | 33 => ⟨S16x3x9216x32, .i32⟩
  | 34 => ⟨S16x3x9216x32, .i32⟩
  | 35 => ⟨S16x3x9216x32x1, .i32⟩
  | 36 => ⟨S1, .i32⟩
  | 37 => ⟨S_, .i32⟩
  | 38 => ⟨S16x3x9216x32x1, .i32⟩
  | 39 => ⟨S16x3x9216x32x1, .i1⟩
  | 40 => ⟨S1x1x1x1x1, .i32⟩
  | 41 => ⟨S16x3x9216x32x1, .i32⟩
  | 42 => ⟨S16x3x9216x32x1, .i1⟩
  | 43 => ⟨S16x3x9216x32x1, .i1⟩
  | 44 => ⟨S_, .i1⟩
  | 45 => ⟨S16x3x9216x32, .i1⟩
  | 46 => ⟨S16x3x9216x32, .f32⟩
  | 47 => ⟨S_, .f32⟩
  | 48 => ⟨S16x3x9216x32, .f32⟩
  | 49 => ⟨S16x3x9216x32, .f32⟩
  | 50 => ⟨S16x3x9216, .f32⟩
  | 51 => ⟨S16x3x9216, .f32⟩
  | 52 => ⟨S16x3x9216x1, .f32⟩
  | 53 => ⟨S16x3x9216x32, .f32⟩
  | 54 => ⟨S16x3x9216x32, .f32⟩
  | 55 => ⟨S16x3x9216x32, .f32⟩
  | 56 => ⟨S_, .f32⟩
  | 57 => ⟨S16x3x9216, .f32⟩
  | 58 => ⟨S16x3x9216, .f32⟩
  | 59 => ⟨S_, .f32⟩
  | 60 => ⟨S16x3x9216, .f32⟩
  | 61 => ⟨S16x3x9216, .f32⟩
  | 62 => ⟨S16x3x9216, .f32⟩
  | 63 => ⟨S16x3x9216, .f32⟩
  | 64 => ⟨S_, .f32⟩
  | 65 => ⟨S16x3x9216, .f32⟩
  | 66 => ⟨S16x3x9216, .f32⟩
  | 67 => ⟨S16x3x9216, .f32⟩
  | 68 => ⟨S16x3x9216, .f32⟩
  | 69 => ⟨S_, .f32⟩
  | 70 => ⟨S16x3x9216, .f32⟩
  | 71 => ⟨S16x3x9216, .f32⟩
  | 72 => ⟨S_, .f32⟩
  | 73 => ⟨S16x3x9216, .f32⟩
  | 74 => ⟨S16x3x9216, .i1⟩
  | 75 => ⟨S_, .i32⟩
  | 76 => ⟨S_, .i32⟩
  | 77 => ⟨S_, .f32⟩
  | 78 => ⟨S16x3x9216, .f32⟩
  | 79 => ⟨S16x3x9216, .i1⟩
  | 80 => ⟨S16x3x9216, .i1⟩
  | 81 => ⟨S_, .f32⟩
  | 82 => ⟨S16x3x9216, .f32⟩
  | 83 => ⟨S16x3x9216, .i1⟩
  | 84 => ⟨S16x3x9216, .i1⟩
  | 85 => ⟨S_, .i32⟩
  | 86 => ⟨S_, .i32⟩
  | 87 => ⟨S_, .f32⟩
  | 88 => ⟨S16x3x9216, .f32⟩
  | 89 => ⟨S16x3x9216, .i1⟩
  | 90 => ⟨S16x3x9216, .i1⟩
  | 91 => ⟨S16x3x9216, .f32⟩
  | 92 => ⟨S_, .i32⟩
  | 93 => ⟨S_, .i32⟩
  | 94 => ⟨S_, .i32⟩
  | 95 => ⟨S_, .f32⟩
  | 96 => ⟨S16x3x9216, .f32⟩
  | 97 => ⟨S16x3x9216, .f32⟩
  | 98 => ⟨S_, .f32⟩
  | 99 => ⟨S16x3x9216, .f32⟩
  | 100 => ⟨S16x3x9216, .f32⟩
  | 101 => ⟨S16x3x9216, .i32⟩
  | 102 => ⟨S_, .i32⟩
  | 103 => ⟨S_, .i32⟩
  | 104 => ⟨S_, .i32⟩
  | 105 => ⟨S_, .f32⟩
  | 106 => ⟨S16x3x9216, .f32⟩
  | 107 => ⟨S16x3x9216, .f32⟩
  | 108 => ⟨S_, .f32⟩
  | 109 => ⟨S16x3x9216, .f32⟩
  | 110 => ⟨S16x3x9216, .f32⟩
  | 111 => ⟨S16x3x9216, .i32⟩
  | 112 => ⟨S16x3x9216, .i32⟩
  | 113 => ⟨S16x3x9216, .i32⟩
  | 114 => ⟨S16x3x9216, .i32⟩
  | 115 => ⟨S16x3x9216x1, .i32⟩
  | 116 => ⟨S16x3x9216x32, .i32⟩
  | 117 => ⟨S_, .i32⟩
  | 118 => ⟨S16x3x9216x32, .i32⟩
  | 119 => ⟨S16x3x9216x32, .i1⟩
  | 120 => ⟨S_, .i32⟩
  | 121 => ⟨S16x3x9216x32, .i32⟩
  | 122 => ⟨S16x3x9216x32, .i32⟩
  | 123 => ⟨S16x3x9216x32, .i32⟩
  | 124 => ⟨S16x3x9216x32x1, .i32⟩
  | 125 => ⟨S1, .i32⟩
  | 126 => ⟨S_, .i32⟩
  | 127 => ⟨S16x3x9216x32x1, .i32⟩
  | _ => ⟨S16x1024x96, .f32⟩

abbrev hbmTy0_3 (i : Nat) : BufTy := match i % 128 with
  | 0 => ⟨S16x3x9216x32x1, .i1⟩
  | 1 => ⟨S1x1x1x1x1, .i32⟩
  | 2 => ⟨S16x3x9216x32x1, .i32⟩
  | 3 => ⟨S16x3x9216x32x1, .i1⟩
  | 4 => ⟨S16x3x9216x32x1, .i1⟩
  | 5 => ⟨S_, .i1⟩
  | 6 => ⟨S16x3x9216x32, .i1⟩
  | 7 => ⟨S16x3x9216x32, .f32⟩
  | 8 => ⟨S_, .f32⟩
  | 9 => ⟨S16x3x9216x32, .f32⟩
  | 10 => ⟨S16x3x9216x32, .f32⟩
  | 11 => ⟨S16x3x9216, .f32⟩
  | 12 => ⟨S16x3x9216, .f32⟩
  | 13 => ⟨S16x3x9216x1, .f32⟩
  | 14 => ⟨S16x3x9216x32, .f32⟩
  | 15 => ⟨S16x3x9216x32, .f32⟩
  | 16 => ⟨S16x3x9216x32, .f32⟩
  | 17 => ⟨S_, .f32⟩
  | 18 => ⟨S16x3x9216, .f32⟩
  | 19 => ⟨S16x3x9216, .f32⟩
  | 20 => ⟨S_, .f32⟩
  | 21 => ⟨S16x3x9216, .f32⟩
  | 22 => ⟨S16x3x9216, .f32⟩
  | 23 => ⟨S16x3x9216, .f32⟩
  | 24 => ⟨S16x3x9216, .f32⟩
  | 25 => ⟨S_, .f32⟩
  | 26 => ⟨S16x3x9216, .f32⟩
  | 27 => ⟨S16x3x9216, .f32⟩
  | 28 => ⟨S16x3x9216, .f32⟩
  | 29 => ⟨S16x3x9216, .f32⟩
  | 30 => ⟨S_, .f32⟩
  | 31 => ⟨S16x3x9216, .f32⟩
  | 32 => ⟨S16x3x9216, .f32⟩
  | 33 => ⟨S_, .f32⟩
  | 34 => ⟨S16x3x9216, .f32⟩
  | 35 => ⟨S16x3x9216, .i1⟩
  | 36 => ⟨S_, .i32⟩
  | 37 => ⟨S_, .i32⟩
  | 38 => ⟨S_, .f32⟩
  | 39 => ⟨S16x3x9216, .f32⟩
  | 40 => ⟨S16x3x9216, .i1⟩
  | 41 => ⟨S16x3x9216, .i1⟩
  | 42 => ⟨S_, .f32⟩
  | 43 => ⟨S16x3x9216, .f32⟩
  | 44 => ⟨S16x3x9216, .i1⟩
  | 45 => ⟨S16x3x9216, .i1⟩
  | 46 => ⟨S_, .i32⟩
  | 47 => ⟨S_, .i32⟩
  | 48 => ⟨S_, .f32⟩
  | 49 => ⟨S16x3x9216, .f32⟩
  | 50 => ⟨S16x3x9216, .i1⟩
  | 51 => ⟨S16x3x9216, .i1⟩
  | 52 => ⟨S16x3x9216, .f32⟩
  | 53 => ⟨S_, .i32⟩
  | 54 => ⟨S_, .i32⟩
  | 55 => ⟨S_, .i32⟩
  | 56 => ⟨S_, .f32⟩
  | 57 => ⟨S16x3x9216, .f32⟩
  | 58 => ⟨S16x3x9216, .f32⟩
  | 59 => ⟨S_, .f32⟩
  | 60 => ⟨S16x3x9216, .f32⟩
  | 61 => ⟨S16x3x9216, .f32⟩
  | 62 => ⟨S16x3x9216, .i32⟩
  | 63 => ⟨S_, .i32⟩
  | 64 => ⟨S_, .i32⟩
  | 65 => ⟨S_, .i32⟩
  | 66 => ⟨S_, .f32⟩
  | 67 => ⟨S16x3x9216, .f32⟩
  | 68 => ⟨S16x3x9216, .f32⟩
  | 69 => ⟨S_, .f32⟩
  | 70 => ⟨S16x3x9216, .f32⟩
  | 71 => ⟨S16x3x9216, .f32⟩
  | 72 => ⟨S16x3x9216, .i32⟩
  | 73 => ⟨S16x3x9216, .i32⟩
  | 74 => ⟨S16x3x9216, .i32⟩
  | 75 => ⟨S16x3x9216, .i32⟩
  | 76 => ⟨S16x3x9216x1, .i32⟩
  | 77 => ⟨S16x3x9216x32, .i32⟩
  | 78 => ⟨S_, .i32⟩
  | 79 => ⟨S16x3x9216x32, .i32⟩
  | 80 => ⟨S16x3x9216x32, .i1⟩
  | 81 => ⟨S_, .i32⟩
  | 82 => ⟨S16x3x9216x32, .i32⟩
  | 83 => ⟨S16x3x9216x32, .i32⟩
  | 84 => ⟨S16x3x9216x32, .i32⟩
  | 85 => ⟨S16x3x9216x32x1, .i32⟩
  | 86 => ⟨S1, .i32⟩
  | 87 => ⟨S_, .i32⟩
  | 88 => ⟨S16x3x9216x32x1, .i32⟩
  | 89 => ⟨S16x3x9216x32x1, .i1⟩
  | 90 => ⟨S1x1x1x1x1, .i32⟩
  | 91 => ⟨S16x3x9216x32x1, .i32⟩
  | 92 => ⟨S16x3x9216x32x1, .i1⟩
  | 93 => ⟨S16x3x9216x32x1, .i1⟩
  | 94 => ⟨S_, .i1⟩
  | 95 => ⟨S16x3x9216x32, .i1⟩
  | 96 => ⟨S16x3x9216x32, .f32⟩
  | 97 => ⟨S_, .f32⟩
  | 98 => ⟨S16x3x9216x32, .f32⟩
  | 99 => ⟨S16x3x9216x32, .f32⟩
  | 100 => ⟨S16x3x9216, .f32⟩
  | 101 => ⟨S16x3x9216, .f32⟩
  | 102 => ⟨S16x3x9216x1, .f32⟩
  | 103 => ⟨S16x3x9216x32, .f32⟩
  | 104 => ⟨S16x3x9216x32, .f32⟩
  | 105 => ⟨S16x3x9216x32, .f32⟩
  | 106 => ⟨S16x3x1024x9x32, .f32⟩
  | 107 => ⟨S16x3x9216, .f32⟩
  | 108 => ⟨S16x3x9216, .f32⟩
  | 109 => ⟨S_, .f32⟩
  | 110 => ⟨S16x3x9216x32, .f32⟩
  | 111 => ⟨S_, .f32⟩
  | 112 => ⟨S16x3x9216, .f32⟩
  | 113 => ⟨S16x3x9216, .f32⟩
  | 114 => ⟨S_, .f32⟩
  | 115 => ⟨S16x3x9216, .f32⟩
  | 116 => ⟨S16x3x9216, .f32⟩
  | 117 => ⟨S16x3x9216, .f32⟩
  | 118 => ⟨S16x3x9216, .f32⟩
  | 119 => ⟨S_, .f32⟩
  | 120 => ⟨S16x3x9216, .f32⟩
  | 121 => ⟨S16x3x9216, .f32⟩
  | 122 => ⟨S16x3x9216, .f32⟩
  | 123 => ⟨S16x3x9216, .f32⟩
  | 124 => ⟨S_, .f32⟩
  | 125 => ⟨S16x3x9216, .f32⟩
  | 126 => ⟨S16x3x9216, .f32⟩
  | 127 => ⟨S_, .f32⟩
  | _ => ⟨S16x1024x96, .f32⟩

abbrev hbmTy0_4 (i : Nat) : BufTy := match i % 128 with
  | 0 => ⟨S16x3x9216, .f32⟩
  | 1 => ⟨S16x3x9216, .i1⟩
  | 2 => ⟨S_, .i32⟩
  | 3 => ⟨S_, .i32⟩
  | 4 => ⟨S_, .f32⟩
  | 5 => ⟨S16x3x9216, .f32⟩
  | 6 => ⟨S16x3x9216, .i1⟩
  | 7 => ⟨S16x3x9216, .i1⟩
  | 8 => ⟨S_, .f32⟩
  | 9 => ⟨S16x3x9216, .f32⟩
  | 10 => ⟨S16x3x9216, .i1⟩
  | 11 => ⟨S16x3x9216, .i1⟩
  | 12 => ⟨S_, .i32⟩
  | 13 => ⟨S_, .i32⟩
  | 14 => ⟨S_, .f32⟩
  | 15 => ⟨S16x3x9216, .f32⟩
  | 16 => ⟨S16x3x9216, .i1⟩
  | 17 => ⟨S16x3x9216, .i1⟩
  | 18 => ⟨S16x3x9216, .f32⟩
  | 19 => ⟨S_, .i32⟩
  | 20 => ⟨S_, .i32⟩
  | 21 => ⟨S_, .i32⟩
  | 22 => ⟨S_, .f32⟩
  | 23 => ⟨S16x3x9216, .f32⟩
  | 24 => ⟨S16x3x9216, .f32⟩
  | 25 => ⟨S_, .f32⟩
  | 26 => ⟨S16x3x9216, .f32⟩
  | 27 => ⟨S16x3x9216, .f32⟩
  | 28 => ⟨S16x3x9216, .i32⟩
  | 29 => ⟨S_, .i32⟩
  | 30 => ⟨S_, .i32⟩
  | 31 => ⟨S_, .i32⟩
  | 32 => ⟨S_, .f32⟩
  | 33 => ⟨S16x3x9216, .f32⟩
  | 34 => ⟨S16x3x9216, .f32⟩
  | 35 => ⟨S_, .f32⟩
  | 36 => ⟨S16x3x9216, .f32⟩
  | 37 => ⟨S16x3x9216, .f32⟩
  | 38 => ⟨S16x3x9216, .i32⟩
  | 39 => ⟨S16x3x9216, .i32⟩
  | 40 => ⟨S16x3x9216, .i32⟩
  | 41 => ⟨S16x3x9216, .i32⟩
  | 42 => ⟨S16x3x9216x1, .i32⟩
  | 43 => ⟨S16x3x9216x32, .i32⟩
  | 44 => ⟨S_, .i32⟩
  | 45 => ⟨S16x3x9216x32, .i32⟩
  | 46 => ⟨S16x3x9216x32, .i1⟩
  | 47 => ⟨S_, .i32⟩
  | 48 => ⟨S16x3x9216x32, .i32⟩
  | 49 => ⟨S16x3x9216x32, .i32⟩
  | 50 => ⟨S16x3x9216x32, .i32⟩
  | 51 => ⟨S16x3x9216x32x1, .i32⟩
  | 52 => ⟨S1, .i32⟩
  | 53 => ⟨S_, .i32⟩
  | 54 => ⟨S16x3x9216x32x1, .i32⟩
  | 55 => ⟨S16x3x9216x32x1, .i1⟩
  | 56 => ⟨S1x1x1x1x1, .i32⟩
  | 57 => ⟨S16x3x9216x32x1, .i32⟩
  | 58 => ⟨S16x3x9216x32x1, .i1⟩
  | 59 => ⟨S16x3x9216x32x1, .i1⟩
  | 60 => ⟨S_, .i1⟩
  | 61 => ⟨S16x3x9216x32, .i1⟩
  | 62 => ⟨S16x3x9216x32, .f32⟩
  | 63 => ⟨S_, .f32⟩
  | 64 => ⟨S16x3x9216x32, .f32⟩
  | 65 => ⟨S16x3x9216x32, .f32⟩
  | 66 => ⟨S16x3x9216, .f32⟩
  | 67 => ⟨S16x3x9216, .f32⟩
  | 68 => ⟨S16x3x9216x1, .f32⟩
  | 69 => ⟨S16x3x9216x32, .f32⟩
  | 70 => ⟨S16x3x9216x32, .f32⟩
  | 71 => ⟨S16x3x9216x32, .f32⟩
  | 72 => ⟨S_, .f32⟩
  | 73 => ⟨S16x3x9216, .f32⟩
  | 74 => ⟨S16x3x9216, .f32⟩
  | 75 => ⟨S_, .f32⟩
  | 76 => ⟨S16x3x9216, .f32⟩
  | 77 => ⟨S16x3x9216, .f32⟩
  | 78 => ⟨S16x3x9216, .f32⟩
  | 79 => ⟨S16x3x9216, .f32⟩
  | 80 => ⟨S_, .f32⟩
  | 81 => ⟨S16x3x9216, .f32⟩
  | 82 => ⟨S16x3x9216, .f32⟩
  | 83 => ⟨S16x3x9216, .f32⟩
  | 84 => ⟨S16x3x9216, .f32⟩
  | 85 => ⟨S_, .f32⟩
  | 86 => ⟨S16x3x9216, .f32⟩
  | 87 => ⟨S16x3x9216, .f32⟩
  | 88 => ⟨S_, .f32⟩
  | 89 => ⟨S16x3x9216, .f32⟩
  | 90 => ⟨S16x3x9216, .i1⟩
  | 91 => ⟨S_, .i32⟩
  | 92 => ⟨S_, .i32⟩
  | 93 => ⟨S_, .f32⟩
  | 94 => ⟨S16x3x9216, .f32⟩
  | 95 => ⟨S16x3x9216, .i1⟩
  | 96 => ⟨S16x3x9216, .i1⟩
  | 97 => ⟨S_, .f32⟩
  | 98 => ⟨S16x3x9216, .f32⟩
  | 99 => ⟨S16x3x9216, .i1⟩
  | 100 => ⟨S16x3x9216, .i1⟩
  | 101 => ⟨S_, .i32⟩
  | 102 => ⟨S_, .i32⟩
  | 103 => ⟨S_, .f32⟩
  | 104 => ⟨S16x3x9216, .f32⟩
  | 105 => ⟨S16x3x9216, .i1⟩
  | 106 => ⟨S16x3x9216, .i1⟩
  | 107 => ⟨S16x3x9216, .f32⟩
  | 108 => ⟨S_, .i32⟩
  | 109 => ⟨S_, .i32⟩
  | 110 => ⟨S_, .i32⟩
  | 111 => ⟨S_, .f32⟩
  | 112 => ⟨S16x3x9216, .f32⟩
  | 113 => ⟨S16x3x9216, .f32⟩
  | 114 => ⟨S_, .f32⟩
  | 115 => ⟨S16x3x9216, .f32⟩
  | 116 => ⟨S16x3x9216, .f32⟩
  | 117 => ⟨S16x3x9216, .i32⟩
  | 118 => ⟨S_, .i32⟩
  | 119 => ⟨S_, .i32⟩
  | 120 => ⟨S_, .i32⟩
  | 121 => ⟨S_, .f32⟩
  | 122 => ⟨S16x3x9216, .f32⟩
  | 123 => ⟨S16x3x9216, .f32⟩
  | 124 => ⟨S_, .f32⟩
  | 125 => ⟨S16x3x9216, .f32⟩
  | 126 => ⟨S16x3x9216, .f32⟩
  | 127 => ⟨S16x3x9216, .i32⟩
  | _ => ⟨S16x1024x96, .f32⟩

abbrev hbmTy0_5 (i : Nat) : BufTy := match i % 128 with
  | 0 => ⟨S16x3x9216, .i32⟩
  | 1 => ⟨S16x3x9216, .i32⟩
  | 2 => ⟨S16x3x9216, .i32⟩
  | 3 => ⟨S16x3x9216x1, .i32⟩
  | 4 => ⟨S16x3x9216x32, .i32⟩
  | 5 => ⟨S_, .i32⟩
  | 6 => ⟨S16x3x9216x32, .i32⟩
  | 7 => ⟨S16x3x9216x32, .i1⟩
  | 8 => ⟨S_, .i32⟩
  | 9 => ⟨S16x3x9216x32, .i32⟩
  | 10 => ⟨S16x3x9216x32, .i32⟩
  | 11 => ⟨S16x3x9216x32, .i32⟩
  | 12 => ⟨S16x3x9216x32x1, .i32⟩
  | 13 => ⟨S1, .i32⟩
  | 14 => ⟨S_, .i32⟩
  | 15 => ⟨S16x3x9216x32x1, .i32⟩
  | 16 => ⟨S16x3x9216x32x1, .i1⟩
  | 17 => ⟨S1x1x1x1x1, .i32⟩
  | 18 => ⟨S16x3x9216x32x1, .i32⟩
  | 19 => ⟨S16x3x9216x32x1, .i1⟩
  | 20 => ⟨S16x3x9216x32x1, .i1⟩
  | 21 => ⟨S_, .i1⟩
  | 22 => ⟨S16x3x9216x32, .i1⟩
  | 23 => ⟨S16x3x9216x32, .f32⟩
  | 24 => ⟨S_, .f32⟩
  | 25 => ⟨S16x3x9216x32, .f32⟩
  | 26 => ⟨S16x3x9216x32, .f32⟩
  | 27 => ⟨S16x3x9216, .f32⟩
  | 28 => ⟨S16x3x9216, .f32⟩
  | 29 => ⟨S16x3x9216x1, .f32⟩
  | 30 => ⟨S16x3x9216x32, .f32⟩
  | 31 => ⟨S16x3x9216x32, .f32⟩
  | 32 => ⟨S16x3x9216x32, .f32⟩
  | 33 => ⟨S_, .f32⟩
  | 34 => ⟨S16x3x9216, .f32⟩
  | 35 => ⟨S16x3x9216, .f32⟩
  | 36 => ⟨S_, .f32⟩
  | 37 => ⟨S16x3x9216, .f32⟩
  | 38 => ⟨S16x3x9216, .f32⟩
  | 39 => ⟨S16x3x9216, .f32⟩
  | 40 => ⟨S16x3x9216, .f32⟩
  | 41 => ⟨S_, .f32⟩
  | 42 => ⟨S16x3x9216, .f32⟩
  | 43 => ⟨S16x3x9216, .f32⟩
  | 44 => ⟨S16x3x9216, .f32⟩
  | 45 => ⟨S16x3x9216, .f32⟩
  | 46 => ⟨S_, .f32⟩
  | 47 => ⟨S16x3x9216, .f32⟩
  | 48 => ⟨S16x3x9216, .f32⟩
  | 49 => ⟨S_, .f32⟩
  | 50 => ⟨S16x3x9216, .f32⟩
  | 51 => ⟨S16x3x9216, .i1⟩
  | 52 => ⟨S_, .i32⟩
  | 53 => ⟨S_, .i32⟩
  | 54 => ⟨S_, .f32⟩
  | 55 => ⟨S16x3x9216, .f32⟩
  | 56 => ⟨S16x3x9216, .i1⟩
  | 57 => ⟨S16x3x9216, .i1⟩
  | 58 => ⟨S_, .f32⟩
  | 59 => ⟨S16x3x9216, .f32⟩
  | 60 => ⟨S16x3x9216, .i1⟩
  | 61 => ⟨S16x3x9216, .i1⟩
  | 62 => ⟨S_, .i32⟩
  | 63 => ⟨S_, .i32⟩
  | 64 => ⟨S_, .f32⟩
  | 65 => ⟨S16x3x9216, .f32⟩
  | 66 => ⟨S16x3x9216, .i1⟩
  | 67 => ⟨S16x3x9216, .i1⟩
  | 68 => ⟨S16x3x9216, .f32⟩
  | 69 => ⟨S_, .i32⟩
  | 70 => ⟨S_, .i32⟩
  | 71 => ⟨S_, .i32⟩
  | 72 => ⟨S_, .f32⟩
  | 73 => ⟨S16x3x9216, .f32⟩
  | 74 => ⟨S16x3x9216, .f32⟩
  | 75 => ⟨S_, .f32⟩
  | 76 => ⟨S16x3x9216, .f32⟩
  | 77 => ⟨S16x3x9216, .f32⟩
  | 78 => ⟨S16x3x9216, .i32⟩
  | 79 => ⟨S_, .i32⟩
  | 80 => ⟨S_, .i32⟩
  | 81 => ⟨S_, .i32⟩
  | 82 => ⟨S_, .f32⟩
  | 83 => ⟨S16x3x9216, .f32⟩
  | 84 => ⟨S16x3x9216, .f32⟩
  | 85 => ⟨S_, .f32⟩
  | 86 => ⟨S16x3x9216, .f32⟩
  | 87 => ⟨S16x3x9216, .f32⟩
  | 88 => ⟨S16x3x9216, .i32⟩
  | 89 => ⟨S16x3x9216, .i32⟩
  | 90 => ⟨S16x3x9216, .i32⟩
  | 91 => ⟨S16x3x9216, .i32⟩
  | 92 => ⟨S16x3x9216x1, .i32⟩
  | 93 => ⟨S16x3x9216x32, .i32⟩
  | 94 => ⟨S_, .i32⟩
  | 95 => ⟨S16x3x9216x32, .i32⟩
  | 96 => ⟨S16x3x9216x32, .i1⟩
  | 97 => ⟨S_, .i32⟩
  | 98 => ⟨S16x3x9216x32, .i32⟩
  | 99 => ⟨S16x3x9216x32, .i32⟩
  | 100 => ⟨S16x3x9216x32, .i32⟩
  | 101 => ⟨S16x3x9216x32x1, .i32⟩
  | 102 => ⟨S1, .i32⟩
  | 103 => ⟨S_, .i32⟩
  | 104 => ⟨S16x3x9216x32x1, .i32⟩
  | 105 => ⟨S16x3x9216x32x1, .i1⟩
  | 106 => ⟨S1x1x1x1x1, .i32⟩
  | 107 => ⟨S16x3x9216x32x1, .i32⟩
  | 108 => ⟨S16x3x9216x32x1, .i1⟩
  | 109 => ⟨S16x3x9216x32x1, .i1⟩
  | 110 => ⟨S_, .i1⟩
  | 111 => ⟨S16x3x9216x32, .i1⟩
  | 112 => ⟨S16x3x9216x32, .f32⟩
  | 113 => ⟨S_, .f32⟩
  | 114 => ⟨S16x3x9216x32, .f32⟩
  | 115 => ⟨S16x3x9216x32, .f32⟩
  | 116 => ⟨S16x3x9216, .f32⟩
  | 117 => ⟨S16x3x9216, .f32⟩
  | 118 => ⟨S16x3x9216x1, .f32⟩
  | 119 => ⟨S16x3x9216x32, .f32⟩
  | 120 => ⟨S16x3x9216x32, .f32⟩
  | 121 => ⟨S16x3x9216x32, .f32⟩
  | 122 => ⟨S_, .f32⟩
  | 123 => ⟨S16x3x9216, .f32⟩
  | 124 => ⟨S16x3x9216, .f32⟩
  | 125 => ⟨S_, .f32⟩
  | 126 => ⟨S16x3x9216, .f32⟩
  | 127 => ⟨S16x3x9216, .f32⟩
  | _ => ⟨S16x1024x96, .f32⟩

abbrev hbmTy0_6 (i : Nat) : BufTy := match i % 128 with
  | 0 => ⟨S16x3x9216, .f32⟩
  | 1 => ⟨S16x3x9216, .f32⟩
  | 2 => ⟨S_, .f32⟩
  | 3 => ⟨S16x3x9216, .f32⟩
  | 4 => ⟨S16x3x9216, .f32⟩
  | 5 => ⟨S16x3x9216, .f32⟩
  | 6 => ⟨S16x3x9216, .f32⟩
  | 7 => ⟨S_, .f32⟩
  | 8 => ⟨S16x3x9216, .f32⟩
  | 9 => ⟨S16x3x9216, .f32⟩
  | 10 => ⟨S_, .f32⟩
  | 11 => ⟨S16x3x9216, .f32⟩
  | 12 => ⟨S16x3x9216, .i1⟩
  | 13 => ⟨S_, .i32⟩
  | 14 => ⟨S_, .i32⟩
  | 15 => ⟨S_, .f32⟩
  | 16 => ⟨S16x3x9216, .f32⟩
  | 17 => ⟨S16x3x9216, .i1⟩
  | 18 => ⟨S16x3x9216, .i1⟩
  | 19 => ⟨S_, .f32⟩
  | 20 => ⟨S16x3x9216, .f32⟩
  | 21 => ⟨S16x3x9216, .i1⟩
  | 22 => ⟨S16x3x9216, .i1⟩
  | 23 => ⟨S_, .i32⟩
  | 24 => ⟨S_, .i32⟩
  | 25 => ⟨S_, .f32⟩
  | 26 => ⟨S16x3x9216, .f32⟩
  | 27 => ⟨S16x3x9216, .i1⟩
  | 28 => ⟨S16x3x9216, .i1⟩
  | 29 => ⟨S16x3x9216, .f32⟩
  | 30 => ⟨S_, .i32⟩
  | 31 => ⟨S_, .i32⟩
  | 32 => ⟨S_, .i32⟩
  | 33 => ⟨S_, .f32⟩
  | 34 => ⟨S16x3x9216, .f32⟩
  | 35 => ⟨S16x3x9216, .f32⟩
  | 36 => ⟨S_, .f32⟩
  | 37 => ⟨S16x3x9216, .f32⟩
  | 38 => ⟨S16x3x9216, .f32⟩
  | 39 => ⟨S16x3x9216, .i32⟩
  | 40 => ⟨S_, .i32⟩
  | 41 => ⟨S_, .i32⟩
  | 42 => ⟨S_, .i32⟩
  | 43 => ⟨S_, .f32⟩
  | 44 => ⟨S16x3x9216, .f32⟩
  | 45 => ⟨S16x3x9216, .f32⟩
  | 46 => ⟨S_, .f32⟩
  | 47 => ⟨S16x3x9216, .f32⟩
  | 48 => ⟨S16x3x9216, .f32⟩
  | 49 => ⟨S16x3x9216, .i32⟩
  | 50 => ⟨S16x3x9216, .i32⟩
  | 51 => ⟨S16x3x9216, .i32⟩
  | 52 => ⟨S16x3x9216, .i32⟩
  | 53 => ⟨S16x3x9216x1, .i32⟩
  | 54 => ⟨S16x3x9216x32, .i32⟩
  | 55 => ⟨S_, .i32⟩
  | 56 => ⟨S16x3x9216x32, .i32⟩
  | 57 => ⟨S16x3x9216x32, .i1⟩
  | 58 => ⟨S_, .i32⟩
  | 59 => ⟨S16x3x9216x32, .i32⟩
  | 60 => ⟨S16x3x9216x32, .i32⟩
  | 61 => ⟨S16x3x9216x32, .i32⟩
  | 62 => ⟨S16x3x9216x32x1, .i32⟩
  | 63 => ⟨S1, .i32⟩
  | 64 => ⟨S_, .i32⟩
  | 65 => ⟨S16x3x9216x32x1, .i32⟩
  | 66 => ⟨S16x3x9216x32x1, .i1⟩
  | 67 => ⟨S1x1x1x1x1, .i32⟩
  | 68 => ⟨S16x3x9216x32x1, .i32⟩
  | 69 => ⟨S16x3x9216x32x1, .i1⟩
  | 70 => ⟨S16x3x9216x32x1, .i1⟩
  | 71 => ⟨S_, .i1⟩
  | 72 => ⟨S16x3x9216x32, .i1⟩
  | 73 => ⟨S16x3x9216x32, .f32⟩
  | 74 => ⟨S_, .f32⟩
  | 75 => ⟨S16x3x9216x32, .f32⟩
  | 76 => ⟨S16x3x9216x32, .f32⟩
  | 77 => ⟨S16x3x9216, .f32⟩
  | 78 => ⟨S16x3x9216, .f32⟩
  | 79 => ⟨S16x3x9216x1, .f32⟩
  | 80 => ⟨S16x3x9216x32, .f32⟩
  | 81 => ⟨S16x3x9216x32, .f32⟩
  | 82 => ⟨S16x3x9216x32, .f32⟩
  | 83 => ⟨S16x3x1024x9x32, .f32⟩
  | 84 => ⟨S16x3x1024x9, .f32⟩
  | 85 => ⟨S_, .f32⟩
  | 86 => ⟨S16x3x1024x9, .f32⟩
  | 87 => ⟨S16x3x1024x9, .f32⟩
  | 88 => ⟨S_, .f32⟩
  | 89 => ⟨S16x3x1024, .f32⟩
  | 90 => ⟨S_, .f32⟩
  | 91 => ⟨S16x3x1024, .f32⟩
  | 92 => ⟨S16x3x1024, .f32⟩
  | 93 => ⟨S16x3x1024x1, .f32⟩
  | 94 => ⟨S16x3x1024x9, .f32⟩
  | 95 => ⟨S16x3x1024x9, .f32⟩
  | 96 => ⟨S16x3x1024x9, .f32⟩
  | 97 => ⟨S_, .f32⟩
  | 98 => ⟨S16x3x1024, .f32⟩
  | 99 => ⟨S16x3x1024x1, .f32⟩
  | 100 => ⟨S16x3x1024x9, .f32⟩
  | 101 => ⟨S16x3x1024x9, .f32⟩
  | 102 => ⟨S16x3x1024x32, .f32⟩
  | 103 => ⟨S16x1024x3x32, .f32⟩
  | 104 => ⟨S16x1024x96, .f32⟩
  | 105 => ⟨S96x96, .f32⟩
  | 106 => ⟨S16x1024x96, .f32⟩
  | 107 => ⟨S1x1x96, .f32⟩
  | 108 => ⟨S16x1024x96, .f32⟩
  | 109 => ⟨S16x1024x96, .f32⟩
  | _ => ⟨S16x1024x96, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16x1024x96, .f32⟩

abbrev bufTy : (tb : Table) → Fin (tcTables nBuf tb) → BufTy
  | .hbm, ⟨i, _⟩ => hbmTy i
  | _, _ => ⟨S16x1024x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_c : Ref sig .tc := ⟨.hbm, 40, rfl⟩
abbrev main_call0_v0 : Ref sig .tc := ⟨.hbm, 41, rfl⟩
abbrev main_call0_c_0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_c_1 : Ref sig .tc := ⟨.hbm, 46, rfl⟩
abbrev main_call0_v4 : Ref sig .tc := ⟨.hbm, 47, rfl⟩
abbrev main_call0_v5 : Ref sig .tc := ⟨.hbm, 48, rfl⟩
abbrev main_call0_c_2 : Ref sig .tc := ⟨.hbm, 49, rfl⟩
abbrev main_call0_v6 : Ref sig .tc := ⟨.hbm, 50, rfl⟩
abbrev main_call0_v7 : Ref sig .tc := ⟨.hbm, 51, rfl⟩
abbrev main_call0_c_3 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_v12 : Ref sig .tc := ⟨.hbm, 57, rfl⟩
abbrev main_call0_v13 : Ref sig .tc := ⟨.hbm, 58, rfl⟩
abbrev main_v28 : Ref sig .tc := ⟨.hbm, 59, rfl⟩
abbrev main_v29 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_c : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_c_0 : Ref sig .tc := ⟨.hbm, 73, rfl⟩
abbrev main_call1_v11 : Ref sig .tc := ⟨.hbm, 74, rfl⟩
abbrev main_call1_v12 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_c : Ref sig .tc := ⟨.hbm, 84, rfl⟩
abbrev main_v38 : Ref sig .tc := ⟨.hbm, 85, rfl⟩
abbrev main_c_0 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_cst_1 : Ref sig .tc := ⟨.hbm, 96, rfl⟩
abbrev main_v48 : Ref sig .tc := ⟨.hbm, 97, rfl⟩
abbrev main_v49 : Ref sig .tc := ⟨.hbm, 98, rfl⟩
abbrev main_cst_2 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_3 : Ref sig .tc := ⟨.hbm, 106, rfl⟩
abbrev main_v56 : Ref sig .tc := ⟨.hbm, 107, rfl⟩
abbrev main_v57 : Ref sig .tc := ⟨.hbm, 108, rfl⟩
abbrev main_cst_4 : Ref sig .tc := ⟨.hbm, 109, rfl⟩
abbrev main_v58 : Ref sig .tc := ⟨.hbm, 110, rfl⟩
abbrev main_v59 : Ref sig .tc := ⟨.hbm, 111, rfl⟩
abbrev main_c_5 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_cst_6 : Ref sig .tc := ⟨.hbm, 119, rfl⟩
abbrev main_v66 : Ref sig .tc := ⟨.hbm, 120, rfl⟩
abbrev main_v67 : Ref sig .tc := ⟨.hbm, 121, rfl⟩
abbrev main_cst_7 : Ref sig .tc := ⟨.hbm, 122, rfl⟩
abbrev main_v68 : Ref sig .tc := ⟨.hbm, 123, rfl⟩
abbrev main_v69 : Ref sig .tc := ⟨.hbm, 124, rfl⟩
abbrev main_c_8 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_cst_9 : Ref sig .tc := ⟨.hbm, 132, rfl⟩
abbrev main_v76 : Ref sig .tc := ⟨.hbm, 133, rfl⟩
abbrev main_cst_10 : Ref sig .tc := ⟨.hbm, 134, rfl⟩
abbrev main_v77 : Ref sig .tc := ⟨.hbm, 135, rfl⟩
abbrev main_v78 : Ref sig .tc := ⟨.hbm, 136, rfl⟩
abbrev main_cst_11 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_12 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_cst_13 : Ref sig .tc := ⟨.hbm, 147, rfl⟩
abbrev main_v87 : Ref sig .tc := ⟨.hbm, 148, rfl⟩
abbrev main_v88 : Ref sig .tc := ⟨.hbm, 149, rfl⟩
abbrev main_cst_14 : Ref sig .tc := ⟨.hbm, 150, rfl⟩
abbrev main_v89 : Ref sig .tc := ⟨.hbm, 151, rfl⟩
abbrev main_v90 : Ref sig .tc := ⟨.hbm, 152, rfl⟩
abbrev main_c_15 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_cst_16 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_c_17 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_c_18 : Ref sig .tc := ⟨.hbm, 170, rfl⟩
abbrev main_v105 : Ref sig .tc := ⟨.hbm, 171, rfl⟩
abbrev main_c_19 : Ref sig .tc := ⟨.hbm, 172, rfl⟩
abbrev main_call2_v0 : Ref sig .tc := ⟨.hbm, 173, rfl⟩
abbrev main_call2_v1 : Ref sig .tc := ⟨.hbm, 174, rfl⟩
abbrev main_call2_v2 : Ref sig .tc := ⟨.hbm, 175, rfl⟩
abbrev main_call2_v3 : Ref sig .tc := ⟨.hbm, 176, rfl⟩
abbrev main_call2_v4 : Ref sig .tc := ⟨.hbm, 177, rfl⟩
abbrev main_v106 : Ref sig .tc := ⟨.hbm, 178, rfl⟩
abbrev main_v107 : Ref sig .tc := ⟨.hbm, 179, rfl⟩
abbrev main_c_20 : Ref sig .tc := ⟨.hbm, 180, rfl⟩
abbrev main_v108 : Ref sig .tc := ⟨.hbm, 181, rfl⟩
abbrev main_c_21 : Ref sig .tc := ⟨.hbm, 182, rfl⟩
abbrev main_call3_v0 : Ref sig .tc := ⟨.hbm, 183, rfl⟩
abbrev main_call3_v1 : Ref sig .tc := ⟨.hbm, 184, rfl⟩
abbrev main_call3_v2 : Ref sig .tc := ⟨.hbm, 185, rfl⟩
abbrev main_call3_v3 : Ref sig .tc := ⟨.hbm, 186, rfl⟩
abbrev main_call3_v4 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_call4_c : Ref sig .tc := ⟨.hbm, 195, rfl⟩
abbrev main_call4_v0 : Ref sig .tc := ⟨.hbm, 196, rfl⟩
abbrev main_call4_v1 : Ref sig .tc := ⟨.hbm, 197, rfl⟩
abbrev main_call4_c_0 : Ref sig .tc := ⟨.hbm, 198, rfl⟩
abbrev main_call4_v2 : Ref sig .tc := ⟨.hbm, 199, rfl⟩
abbrev main_call4_v3 : Ref sig .tc := ⟨.hbm, 200, rfl⟩
abbrev main_call4_v4 : Ref sig .tc := ⟨.hbm, 201, rfl⟩
abbrev main_call4_v5 : Ref sig .tc := ⟨.hbm, 202, rfl⟩
abbrev main_call4_c_1 : Ref sig .tc := ⟨.hbm, 203, rfl⟩
abbrev main_call4_c_2 : Ref sig .tc := ⟨.hbm, 204, rfl⟩
abbrev main_call4_v6 : Ref sig .tc := ⟨.hbm, 205, rfl⟩
abbrev main_call4_v7 : Ref sig .tc := ⟨.hbm, 206, rfl⟩
abbrev main_call4_v8 : Ref sig .tc := ⟨.hbm, 207, rfl⟩
abbrev main_call4_v9 : Ref sig .tc := ⟨.hbm, 208, rfl⟩
abbrev main_call4_v10 : Ref sig .tc := ⟨.hbm, 209, rfl⟩
abbrev main_call4_v11 : Ref sig .tc := ⟨.hbm, 210, rfl⟩
abbrev main_call4_c_3 : Ref sig .tc := ⟨.hbm, 211, rfl⟩
abbrev main_call4_v12 : Ref sig .tc := ⟨.hbm, 212, rfl⟩
abbrev main_call4_v13 : Ref sig .tc := ⟨.hbm, 213, rfl⟩
abbrev main_call4_cst : Ref sig .tc := ⟨.hbm, 214, rfl⟩
abbrev main_call4_v14 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_cst_22 : Ref sig .tc := ⟨.hbm, 223, rfl⟩
abbrev main_v123 : Ref sig .tc := ⟨.hbm, 224, rfl⟩
abbrev main_v124 : Ref sig .tc := ⟨.hbm, 225, rfl⟩
abbrev main_cst_23 : Ref sig .tc := ⟨.hbm, 226, rfl⟩
abbrev main_v125 : Ref sig .tc := ⟨.hbm, 227, rfl⟩
abbrev main_v126 : Ref sig .tc := ⟨.hbm, 228, rfl⟩
abbrev main_v127 : Ref sig .tc := ⟨.hbm, 229, rfl⟩
abbrev main_v128 : Ref sig .tc := ⟨.hbm, 230, rfl⟩
abbrev main_cst_24 : Ref sig .tc := ⟨.hbm, 231, rfl⟩
abbrev main_v129 : Ref sig .tc := ⟨.hbm, 232, rfl⟩
abbrev main_v130 : Ref sig .tc := ⟨.hbm, 233, rfl⟩
abbrev main_v131 : Ref sig .tc := ⟨.hbm, 234, rfl⟩
abbrev main_v132 : Ref sig .tc := ⟨.hbm, 235, rfl⟩
abbrev main_cst_25 : Ref sig .tc := ⟨.hbm, 236, rfl⟩
abbrev main_v133 : Ref sig .tc := ⟨.hbm, 237, rfl⟩
abbrev main_v134 : Ref sig .tc := ⟨.hbm, 238, rfl⟩
abbrev main_cst_26 : Ref sig .tc := ⟨.hbm, 239, rfl⟩
abbrev main_v135 : Ref sig .tc := ⟨.hbm, 240, rfl⟩
abbrev main_v136 : Ref sig .tc := ⟨.hbm, 241, rfl⟩
abbrev main_c_27 : Ref sig .tc := ⟨.hbm, 242, rfl⟩
abbrev main_v137 : Ref sig .tc := ⟨.hbm, 243, rfl⟩
abbrev main_v138 : Ref sig .tc := ⟨.hbm, 244, rfl⟩
abbrev main_v139 : Ref sig .tc := ⟨.hbm, 245, rfl⟩
abbrev main_v140 : Ref sig .tc := ⟨.hbm, 246, rfl⟩
abbrev main_v141 : Ref sig .tc := ⟨.hbm, 247, rfl⟩
abbrev main_cst_28 : Ref sig .tc := ⟨.hbm, 248, rfl⟩
abbrev main_v142 : Ref sig .tc := ⟨.hbm, 249, rfl⟩
abbrev main_v143 : Ref sig .tc := ⟨.hbm, 250, rfl⟩
abbrev main_v144 : Ref sig .tc := ⟨.hbm, 251, rfl⟩
abbrev main_c_29 : Ref sig .tc := ⟨.hbm, 252, rfl⟩
abbrev main_v145 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_v149 : Ref sig .tc := ⟨.hbm, 257, rfl⟩
abbrev main_v150 : Ref sig .tc := ⟨.hbm, 258, rfl⟩
abbrev main_c_30 : Ref sig .tc := ⟨.hbm, 259, rfl⟩
abbrev main_v151 : Ref sig .tc := ⟨.hbm, 260, rfl⟩
abbrev main_c_31 : Ref sig .tc := ⟨.hbm, 261, rfl⟩
abbrev main_call5_v0 : Ref sig .tc := ⟨.hbm, 262, rfl⟩
abbrev main_call5_v1 : Ref sig .tc := ⟨.hbm, 263, rfl⟩
abbrev main_call5_v2 : Ref sig .tc := ⟨.hbm, 264, rfl⟩
abbrev main_call5_v3 : Ref sig .tc := ⟨.hbm, 265, rfl⟩
abbrev main_call5_v4 : Ref sig .tc := ⟨.hbm, 266, rfl⟩
abbrev main_v152 : Ref sig .tc := ⟨.hbm, 267, rfl⟩
abbrev main_v153 : Ref sig .tc := ⟨.hbm, 268, rfl⟩
abbrev main_c_32 : Ref sig .tc := ⟨.hbm, 269, rfl⟩
abbrev main_v154 : Ref sig .tc := ⟨.hbm, 270, rfl⟩
abbrev main_c_33 : Ref sig .tc := ⟨.hbm, 271, rfl⟩
abbrev main_call6_v0 : Ref sig .tc := ⟨.hbm, 272, rfl⟩
abbrev main_call6_v1 : Ref sig .tc := ⟨.hbm, 273, rfl⟩
abbrev main_call6_v2 : Ref sig .tc := ⟨.hbm, 274, rfl⟩
abbrev main_call6_v3 : Ref sig .tc := ⟨.hbm, 275, rfl⟩
abbrev main_call6_v4 : Ref sig .tc := ⟨.hbm, 276, rfl⟩
abbrev main_v155 : Ref sig .tc := ⟨.hbm, 277, rfl⟩
abbrev main_v156 : Ref sig .tc := ⟨.hbm, 278, rfl⟩
abbrev main_v157 : Ref sig .tc := ⟨.hbm, 279, rfl⟩
abbrev main_v158 : Ref sig .tc := ⟨.hbm, 280, rfl⟩
abbrev main_v159 : Ref sig .tc := ⟨.hbm, 281, rfl⟩
abbrev main_v160 : Ref sig .tc := ⟨.hbm, 282, rfl⟩
abbrev main_v161 : Ref sig .tc := ⟨.hbm, 283, rfl⟩
abbrev main_call7_c : Ref sig .tc := ⟨.hbm, 284, rfl⟩
abbrev main_call7_v0 : Ref sig .tc := ⟨.hbm, 285, rfl⟩
abbrev main_call7_v1 : Ref sig .tc := ⟨.hbm, 286, rfl⟩
abbrev main_call7_c_0 : Ref sig .tc := ⟨.hbm, 287, rfl⟩
abbrev main_call7_v2 : Ref sig .tc := ⟨.hbm, 288, rfl⟩
abbrev main_call7_v3 : Ref sig .tc := ⟨.hbm, 289, rfl⟩
abbrev main_call7_v4 : Ref sig .tc := ⟨.hbm, 290, rfl⟩
abbrev main_call7_v5 : Ref sig .tc := ⟨.hbm, 291, rfl⟩
abbrev main_call7_c_1 : Ref sig .tc := ⟨.hbm, 292, rfl⟩
abbrev main_call7_c_2 : Ref sig .tc := ⟨.hbm, 293, rfl⟩
abbrev main_call7_v6 : Ref sig .tc := ⟨.hbm, 294, rfl⟩
abbrev main_call7_v7 : Ref sig .tc := ⟨.hbm, 295, rfl⟩
abbrev main_call7_v8 : Ref sig .tc := ⟨.hbm, 296, rfl⟩
abbrev main_call7_v9 : Ref sig .tc := ⟨.hbm, 297, rfl⟩
abbrev main_call7_v10 : Ref sig .tc := ⟨.hbm, 298, rfl⟩
abbrev main_call7_v11 : Ref sig .tc := ⟨.hbm, 299, rfl⟩
abbrev main_call7_c_3 : Ref sig .tc := ⟨.hbm, 300, rfl⟩
abbrev main_call7_v12 : Ref sig .tc := ⟨.hbm, 301, rfl⟩
abbrev main_call7_v13 : Ref sig .tc := ⟨.hbm, 302, rfl⟩
abbrev main_call7_cst : Ref sig .tc := ⟨.hbm, 303, rfl⟩
abbrev main_call7_v14 : Ref sig .tc := ⟨.hbm, 304, rfl⟩
abbrev main_v162 : Ref sig .tc := ⟨.hbm, 305, rfl⟩
abbrev main_v163 : Ref sig .tc := ⟨.hbm, 306, rfl⟩
abbrev main_v164 : Ref sig .tc := ⟨.hbm, 307, rfl⟩
abbrev main_v165 : Ref sig .tc := ⟨.hbm, 308, rfl⟩
abbrev main_v166 : Ref sig .tc := ⟨.hbm, 309, rfl⟩
abbrev main_v167 : Ref sig .tc := ⟨.hbm, 310, rfl⟩
abbrev main_v168 : Ref sig .tc := ⟨.hbm, 311, rfl⟩
abbrev main_cst_34 : Ref sig .tc := ⟨.hbm, 312, rfl⟩
abbrev main_v169 : Ref sig .tc := ⟨.hbm, 313, rfl⟩
abbrev main_v170 : Ref sig .tc := ⟨.hbm, 314, rfl⟩
abbrev main_cst_35 : Ref sig .tc := ⟨.hbm, 315, rfl⟩
abbrev main_v171 : Ref sig .tc := ⟨.hbm, 316, rfl⟩
abbrev main_v172 : Ref sig .tc := ⟨.hbm, 317, rfl⟩
abbrev main_v173 : Ref sig .tc := ⟨.hbm, 318, rfl⟩
abbrev main_v174 : Ref sig .tc := ⟨.hbm, 319, rfl⟩
abbrev main_cst_36 : Ref sig .tc := ⟨.hbm, 320, rfl⟩
abbrev main_v175 : Ref sig .tc := ⟨.hbm, 321, rfl⟩
abbrev main_v176 : Ref sig .tc := ⟨.hbm, 322, rfl⟩
abbrev main_v177 : Ref sig .tc := ⟨.hbm, 323, rfl⟩
abbrev main_v178 : Ref sig .tc := ⟨.hbm, 324, rfl⟩
abbrev main_cst_37 : Ref sig .tc := ⟨.hbm, 325, rfl⟩
abbrev main_v179 : Ref sig .tc := ⟨.hbm, 326, rfl⟩
abbrev main_v180 : Ref sig .tc := ⟨.hbm, 327, rfl⟩
abbrev main_cst_38 : Ref sig .tc := ⟨.hbm, 328, rfl⟩
abbrev main_v181 : Ref sig .tc := ⟨.hbm, 329, rfl⟩
abbrev main_v182 : Ref sig .tc := ⟨.hbm, 330, rfl⟩
abbrev main_c_39 : Ref sig .tc := ⟨.hbm, 331, rfl⟩
abbrev main_v183 : Ref sig .tc := ⟨.hbm, 332, rfl⟩
abbrev main_v184 : Ref sig .tc := ⟨.hbm, 333, rfl⟩
abbrev main_v185 : Ref sig .tc := ⟨.hbm, 334, rfl⟩
abbrev main_v186 : Ref sig .tc := ⟨.hbm, 335, rfl⟩
abbrev main_v187 : Ref sig .tc := ⟨.hbm, 336, rfl⟩
abbrev main_cst_40 : Ref sig .tc := ⟨.hbm, 337, rfl⟩
abbrev main_v188 : Ref sig .tc := ⟨.hbm, 338, rfl⟩
abbrev main_v189 : Ref sig .tc := ⟨.hbm, 339, rfl⟩
abbrev main_v190 : Ref sig .tc := ⟨.hbm, 340, rfl⟩
abbrev main_c_41 : Ref sig .tc := ⟨.hbm, 341, rfl⟩
abbrev main_v191 : Ref sig .tc := ⟨.hbm, 342, rfl⟩
abbrev main_v192 : Ref sig .tc := ⟨.hbm, 343, rfl⟩
abbrev main_v193 : Ref sig .tc := ⟨.hbm, 344, rfl⟩
abbrev main_v194 : Ref sig .tc := ⟨.hbm, 345, rfl⟩
abbrev main_v195 : Ref sig .tc := ⟨.hbm, 346, rfl⟩
abbrev main_v196 : Ref sig .tc := ⟨.hbm, 347, rfl⟩
abbrev main_c_42 : Ref sig .tc := ⟨.hbm, 348, rfl⟩
abbrev main_v197 : Ref sig .tc := ⟨.hbm, 349, rfl⟩
abbrev main_c_43 : Ref sig .tc := ⟨.hbm, 350, rfl⟩
abbrev main_call8_v0 : Ref sig .tc := ⟨.hbm, 351, rfl⟩
abbrev main_call8_v1 : Ref sig .tc := ⟨.hbm, 352, rfl⟩
abbrev main_call8_v2 : Ref sig .tc := ⟨.hbm, 353, rfl⟩
abbrev main_call8_v3 : Ref sig .tc := ⟨.hbm, 354, rfl⟩
abbrev main_call8_v4 : Ref sig .tc := ⟨.hbm, 355, rfl⟩
abbrev main_v198 : Ref sig .tc := ⟨.hbm, 356, rfl⟩
abbrev main_v199 : Ref sig .tc := ⟨.hbm, 357, rfl⟩
abbrev main_c_44 : Ref sig .tc := ⟨.hbm, 358, rfl⟩
abbrev main_v200 : Ref sig .tc := ⟨.hbm, 359, rfl⟩
abbrev main_c_45 : Ref sig .tc := ⟨.hbm, 360, rfl⟩
abbrev main_call9_v0 : Ref sig .tc := ⟨.hbm, 361, rfl⟩
abbrev main_call9_v1 : Ref sig .tc := ⟨.hbm, 362, rfl⟩
abbrev main_call9_v2 : Ref sig .tc := ⟨.hbm, 363, rfl⟩
abbrev main_call9_v3 : Ref sig .tc := ⟨.hbm, 364, rfl⟩
abbrev main_call9_v4 : Ref sig .tc := ⟨.hbm, 365, rfl⟩
abbrev main_v201 : Ref sig .tc := ⟨.hbm, 366, rfl⟩
abbrev main_v202 : Ref sig .tc := ⟨.hbm, 367, rfl⟩
abbrev main_v203 : Ref sig .tc := ⟨.hbm, 368, rfl⟩
abbrev main_v204 : Ref sig .tc := ⟨.hbm, 369, rfl⟩
abbrev main_v205 : Ref sig .tc := ⟨.hbm, 370, rfl⟩
abbrev main_v206 : Ref sig .tc := ⟨.hbm, 371, rfl⟩
abbrev main_v207 : Ref sig .tc := ⟨.hbm, 372, rfl⟩
abbrev main_call10_c : Ref sig .tc := ⟨.hbm, 373, rfl⟩
abbrev main_call10_v0 : Ref sig .tc := ⟨.hbm, 374, rfl⟩
abbrev main_call10_v1 : Ref sig .tc := ⟨.hbm, 375, rfl⟩
abbrev main_call10_c_0 : Ref sig .tc := ⟨.hbm, 376, rfl⟩
abbrev main_call10_v2 : Ref sig .tc := ⟨.hbm, 377, rfl⟩
abbrev main_call10_v3 : Ref sig .tc := ⟨.hbm, 378, rfl⟩
abbrev main_call10_v4 : Ref sig .tc := ⟨.hbm, 379, rfl⟩
abbrev main_call10_v5 : Ref sig .tc := ⟨.hbm, 380, rfl⟩
abbrev main_call10_c_1 : Ref sig .tc := ⟨.hbm, 381, rfl⟩
abbrev main_call10_c_2 : Ref sig .tc := ⟨.hbm, 382, rfl⟩
abbrev main_call10_v6 : Ref sig .tc := ⟨.hbm, 383, rfl⟩
abbrev main_call10_v7 : Ref sig .tc := ⟨.hbm, 384, rfl⟩
abbrev main_call10_v8 : Ref sig .tc := ⟨.hbm, 385, rfl⟩
abbrev main_call10_v9 : Ref sig .tc := ⟨.hbm, 386, rfl⟩
abbrev main_call10_v10 : Ref sig .tc := ⟨.hbm, 387, rfl⟩
abbrev main_call10_v11 : Ref sig .tc := ⟨.hbm, 388, rfl⟩
abbrev main_call10_c_3 : Ref sig .tc := ⟨.hbm, 389, rfl⟩
abbrev main_call10_v12 : Ref sig .tc := ⟨.hbm, 390, rfl⟩
abbrev main_call10_v13 : Ref sig .tc := ⟨.hbm, 391, rfl⟩
abbrev main_call10_cst : Ref sig .tc := ⟨.hbm, 392, rfl⟩
abbrev main_call10_v14 : Ref sig .tc := ⟨.hbm, 393, rfl⟩
abbrev main_v208 : Ref sig .tc := ⟨.hbm, 394, rfl⟩
abbrev main_v209 : Ref sig .tc := ⟨.hbm, 395, rfl⟩
abbrev main_v210 : Ref sig .tc := ⟨.hbm, 396, rfl⟩
abbrev main_v211 : Ref sig .tc := ⟨.hbm, 397, rfl⟩
abbrev main_v212 : Ref sig .tc := ⟨.hbm, 398, rfl⟩
abbrev main_v213 : Ref sig .tc := ⟨.hbm, 399, rfl⟩
abbrev main_v214 : Ref sig .tc := ⟨.hbm, 400, rfl⟩
abbrev main_cst_46 : Ref sig .tc := ⟨.hbm, 401, rfl⟩
abbrev main_v215 : Ref sig .tc := ⟨.hbm, 402, rfl⟩
abbrev main_v216 : Ref sig .tc := ⟨.hbm, 403, rfl⟩
abbrev main_cst_47 : Ref sig .tc := ⟨.hbm, 404, rfl⟩
abbrev main_v217 : Ref sig .tc := ⟨.hbm, 405, rfl⟩
abbrev main_v218 : Ref sig .tc := ⟨.hbm, 406, rfl⟩
abbrev main_v219 : Ref sig .tc := ⟨.hbm, 407, rfl⟩
abbrev main_v220 : Ref sig .tc := ⟨.hbm, 408, rfl⟩
abbrev main_cst_48 : Ref sig .tc := ⟨.hbm, 409, rfl⟩
abbrev main_v221 : Ref sig .tc := ⟨.hbm, 410, rfl⟩
abbrev main_v222 : Ref sig .tc := ⟨.hbm, 411, rfl⟩
abbrev main_v223 : Ref sig .tc := ⟨.hbm, 412, rfl⟩
abbrev main_v224 : Ref sig .tc := ⟨.hbm, 413, rfl⟩
abbrev main_cst_49 : Ref sig .tc := ⟨.hbm, 414, rfl⟩
abbrev main_v225 : Ref sig .tc := ⟨.hbm, 415, rfl⟩
abbrev main_v226 : Ref sig .tc := ⟨.hbm, 416, rfl⟩
abbrev main_cst_50 : Ref sig .tc := ⟨.hbm, 417, rfl⟩
abbrev main_v227 : Ref sig .tc := ⟨.hbm, 418, rfl⟩
abbrev main_v228 : Ref sig .tc := ⟨.hbm, 419, rfl⟩
abbrev main_c_51 : Ref sig .tc := ⟨.hbm, 420, rfl⟩
abbrev main_v229 : Ref sig .tc := ⟨.hbm, 421, rfl⟩
abbrev main_v230 : Ref sig .tc := ⟨.hbm, 422, rfl⟩
abbrev main_v231 : Ref sig .tc := ⟨.hbm, 423, rfl⟩
abbrev main_v232 : Ref sig .tc := ⟨.hbm, 424, rfl⟩
abbrev main_v233 : Ref sig .tc := ⟨.hbm, 425, rfl⟩
abbrev main_cst_52 : Ref sig .tc := ⟨.hbm, 426, rfl⟩
abbrev main_v234 : Ref sig .tc := ⟨.hbm, 427, rfl⟩
abbrev main_v235 : Ref sig .tc := ⟨.hbm, 428, rfl⟩
abbrev main_v236 : Ref sig .tc := ⟨.hbm, 429, rfl⟩
abbrev main_c_53 : Ref sig .tc := ⟨.hbm, 430, rfl⟩
abbrev main_v237 : Ref sig .tc := ⟨.hbm, 431, rfl⟩
abbrev main_v238 : Ref sig .tc := ⟨.hbm, 432, rfl⟩
abbrev main_v239 : Ref sig .tc := ⟨.hbm, 433, rfl⟩
abbrev main_v240 : Ref sig .tc := ⟨.hbm, 434, rfl⟩
abbrev main_v241 : Ref sig .tc := ⟨.hbm, 435, rfl⟩
abbrev main_v242 : Ref sig .tc := ⟨.hbm, 436, rfl⟩
abbrev main_c_54 : Ref sig .tc := ⟨.hbm, 437, rfl⟩
abbrev main_v243 : Ref sig .tc := ⟨.hbm, 438, rfl⟩
abbrev main_c_55 : Ref sig .tc := ⟨.hbm, 439, rfl⟩
abbrev main_call11_v0 : Ref sig .tc := ⟨.hbm, 440, rfl⟩
abbrev main_call11_v1 : Ref sig .tc := ⟨.hbm, 441, rfl⟩
abbrev main_call11_v2 : Ref sig .tc := ⟨.hbm, 442, rfl⟩
abbrev main_call11_v3 : Ref sig .tc := ⟨.hbm, 443, rfl⟩
abbrev main_call11_v4 : Ref sig .tc := ⟨.hbm, 444, rfl⟩
abbrev main_v244 : Ref sig .tc := ⟨.hbm, 445, rfl⟩
abbrev main_v245 : Ref sig .tc := ⟨.hbm, 446, rfl⟩
abbrev main_c_56 : Ref sig .tc := ⟨.hbm, 447, rfl⟩
abbrev main_v246 : Ref sig .tc := ⟨.hbm, 448, rfl⟩
abbrev main_c_57 : Ref sig .tc := ⟨.hbm, 449, rfl⟩
abbrev main_call12_v0 : Ref sig .tc := ⟨.hbm, 450, rfl⟩
abbrev main_call12_v1 : Ref sig .tc := ⟨.hbm, 451, rfl⟩
abbrev main_call12_v2 : Ref sig .tc := ⟨.hbm, 452, rfl⟩
abbrev main_call12_v3 : Ref sig .tc := ⟨.hbm, 453, rfl⟩
abbrev main_call12_v4 : Ref sig .tc := ⟨.hbm, 454, rfl⟩
abbrev main_v247 : Ref sig .tc := ⟨.hbm, 455, rfl⟩
abbrev main_v248 : Ref sig .tc := ⟨.hbm, 456, rfl⟩
abbrev main_v249 : Ref sig .tc := ⟨.hbm, 457, rfl⟩
abbrev main_v250 : Ref sig .tc := ⟨.hbm, 458, rfl⟩
abbrev main_v251 : Ref sig .tc := ⟨.hbm, 459, rfl⟩
abbrev main_v252 : Ref sig .tc := ⟨.hbm, 460, rfl⟩
abbrev main_v253 : Ref sig .tc := ⟨.hbm, 461, rfl⟩
abbrev main_call13_c : Ref sig .tc := ⟨.hbm, 462, rfl⟩
abbrev main_call13_v0 : Ref sig .tc := ⟨.hbm, 463, rfl⟩
abbrev main_call13_v1 : Ref sig .tc := ⟨.hbm, 464, rfl⟩
abbrev main_call13_c_0 : Ref sig .tc := ⟨.hbm, 465, rfl⟩
abbrev main_call13_v2 : Ref sig .tc := ⟨.hbm, 466, rfl⟩
abbrev main_call13_v3 : Ref sig .tc := ⟨.hbm, 467, rfl⟩
abbrev main_call13_v4 : Ref sig .tc := ⟨.hbm, 468, rfl⟩
abbrev main_call13_v5 : Ref sig .tc := ⟨.hbm, 469, rfl⟩
abbrev main_call13_c_1 : Ref sig .tc := ⟨.hbm, 470, rfl⟩
abbrev main_call13_c_2 : Ref sig .tc := ⟨.hbm, 471, rfl⟩
abbrev main_call13_v6 : Ref sig .tc := ⟨.hbm, 472, rfl⟩
abbrev main_call13_v7 : Ref sig .tc := ⟨.hbm, 473, rfl⟩
abbrev main_call13_v8 : Ref sig .tc := ⟨.hbm, 474, rfl⟩
abbrev main_call13_v9 : Ref sig .tc := ⟨.hbm, 475, rfl⟩
abbrev main_call13_v10 : Ref sig .tc := ⟨.hbm, 476, rfl⟩
abbrev main_call13_v11 : Ref sig .tc := ⟨.hbm, 477, rfl⟩
abbrev main_call13_c_3 : Ref sig .tc := ⟨.hbm, 478, rfl⟩
abbrev main_call13_v12 : Ref sig .tc := ⟨.hbm, 479, rfl⟩
abbrev main_call13_v13 : Ref sig .tc := ⟨.hbm, 480, rfl⟩
abbrev main_call13_cst : Ref sig .tc := ⟨.hbm, 481, rfl⟩
abbrev main_call13_v14 : Ref sig .tc := ⟨.hbm, 482, rfl⟩
abbrev main_v254 : Ref sig .tc := ⟨.hbm, 483, rfl⟩
abbrev main_v255 : Ref sig .tc := ⟨.hbm, 484, rfl⟩
abbrev main_v256 : Ref sig .tc := ⟨.hbm, 485, rfl⟩
abbrev main_v257 : Ref sig .tc := ⟨.hbm, 486, rfl⟩
abbrev main_v258 : Ref sig .tc := ⟨.hbm, 487, rfl⟩
abbrev main_v259 : Ref sig .tc := ⟨.hbm, 488, rfl⟩
abbrev main_v260 : Ref sig .tc := ⟨.hbm, 489, rfl⟩
abbrev main_v261 : Ref sig .tc := ⟨.hbm, 490, rfl⟩
abbrev main_v262 : Ref sig .tc := ⟨.hbm, 491, rfl⟩
abbrev main_v263 : Ref sig .tc := ⟨.hbm, 492, rfl⟩
abbrev main_cst_58 : Ref sig .tc := ⟨.hbm, 493, rfl⟩
abbrev main_v264 : Ref sig .tc := ⟨.hbm, 494, rfl⟩
abbrev main_cst_59 : Ref sig .tc := ⟨.hbm, 495, rfl⟩
abbrev main_v265 : Ref sig .tc := ⟨.hbm, 496, rfl⟩
abbrev main_v266 : Ref sig .tc := ⟨.hbm, 497, rfl⟩
abbrev main_cst_60 : Ref sig .tc := ⟨.hbm, 498, rfl⟩
abbrev main_v267 : Ref sig .tc := ⟨.hbm, 499, rfl⟩
abbrev main_v268 : Ref sig .tc := ⟨.hbm, 500, rfl⟩
abbrev main_v269 : Ref sig .tc := ⟨.hbm, 501, rfl⟩
abbrev main_v270 : Ref sig .tc := ⟨.hbm, 502, rfl⟩
abbrev main_cst_61 : Ref sig .tc := ⟨.hbm, 503, rfl⟩
abbrev main_v271 : Ref sig .tc := ⟨.hbm, 504, rfl⟩
abbrev main_v272 : Ref sig .tc := ⟨.hbm, 505, rfl⟩
abbrev main_v273 : Ref sig .tc := ⟨.hbm, 506, rfl⟩
abbrev main_v274 : Ref sig .tc := ⟨.hbm, 507, rfl⟩
abbrev main_cst_62 : Ref sig .tc := ⟨.hbm, 508, rfl⟩
abbrev main_v275 : Ref sig .tc := ⟨.hbm, 509, rfl⟩
abbrev main_v276 : Ref sig .tc := ⟨.hbm, 510, rfl⟩
abbrev main_cst_63 : Ref sig .tc := ⟨.hbm, 511, rfl⟩
abbrev main_v277 : Ref sig .tc := ⟨.hbm, 512, rfl⟩
abbrev main_v278 : Ref sig .tc := ⟨.hbm, 513, rfl⟩
abbrev main_c_64 : Ref sig .tc := ⟨.hbm, 514, rfl⟩
abbrev main_v279 : Ref sig .tc := ⟨.hbm, 515, rfl⟩
abbrev main_v280 : Ref sig .tc := ⟨.hbm, 516, rfl⟩
abbrev main_v281 : Ref sig .tc := ⟨.hbm, 517, rfl⟩
abbrev main_v282 : Ref sig .tc := ⟨.hbm, 518, rfl⟩
abbrev main_v283 : Ref sig .tc := ⟨.hbm, 519, rfl⟩
abbrev main_cst_65 : Ref sig .tc := ⟨.hbm, 520, rfl⟩
abbrev main_v284 : Ref sig .tc := ⟨.hbm, 521, rfl⟩
abbrev main_v285 : Ref sig .tc := ⟨.hbm, 522, rfl⟩
abbrev main_v286 : Ref sig .tc := ⟨.hbm, 523, rfl⟩
abbrev main_c_66 : Ref sig .tc := ⟨.hbm, 524, rfl⟩
abbrev main_v287 : Ref sig .tc := ⟨.hbm, 525, rfl⟩
abbrev main_v288 : Ref sig .tc := ⟨.hbm, 526, rfl⟩
abbrev main_v289 : Ref sig .tc := ⟨.hbm, 527, rfl⟩
abbrev main_v290 : Ref sig .tc := ⟨.hbm, 528, rfl⟩
abbrev main_v291 : Ref sig .tc := ⟨.hbm, 529, rfl⟩
abbrev main_v292 : Ref sig .tc := ⟨.hbm, 530, rfl⟩
abbrev main_c_67 : Ref sig .tc := ⟨.hbm, 531, rfl⟩
abbrev main_v293 : Ref sig .tc := ⟨.hbm, 532, rfl⟩
abbrev main_c_68 : Ref sig .tc := ⟨.hbm, 533, rfl⟩
abbrev main_call14_v0 : Ref sig .tc := ⟨.hbm, 534, rfl⟩
abbrev main_call14_v1 : Ref sig .tc := ⟨.hbm, 535, rfl⟩
abbrev main_call14_v2 : Ref sig .tc := ⟨.hbm, 536, rfl⟩
abbrev main_call14_v3 : Ref sig .tc := ⟨.hbm, 537, rfl⟩
abbrev main_call14_v4 : Ref sig .tc := ⟨.hbm, 538, rfl⟩
abbrev main_v294 : Ref sig .tc := ⟨.hbm, 539, rfl⟩
abbrev main_v295 : Ref sig .tc := ⟨.hbm, 540, rfl⟩
abbrev main_c_69 : Ref sig .tc := ⟨.hbm, 541, rfl⟩
abbrev main_v296 : Ref sig .tc := ⟨.hbm, 542, rfl⟩
abbrev main_c_70 : Ref sig .tc := ⟨.hbm, 543, rfl⟩
abbrev main_call15_v0 : Ref sig .tc := ⟨.hbm, 544, rfl⟩
abbrev main_call15_v1 : Ref sig .tc := ⟨.hbm, 545, rfl⟩
abbrev main_call15_v2 : Ref sig .tc := ⟨.hbm, 546, rfl⟩
abbrev main_call15_v3 : Ref sig .tc := ⟨.hbm, 547, rfl⟩
abbrev main_call15_v4 : Ref sig .tc := ⟨.hbm, 548, rfl⟩
abbrev main_v297 : Ref sig .tc := ⟨.hbm, 549, rfl⟩
abbrev main_v298 : Ref sig .tc := ⟨.hbm, 550, rfl⟩
abbrev main_v299 : Ref sig .tc := ⟨.hbm, 551, rfl⟩
abbrev main_v300 : Ref sig .tc := ⟨.hbm, 552, rfl⟩
abbrev main_v301 : Ref sig .tc := ⟨.hbm, 553, rfl⟩
abbrev main_v302 : Ref sig .tc := ⟨.hbm, 554, rfl⟩
abbrev main_v303 : Ref sig .tc := ⟨.hbm, 555, rfl⟩
abbrev main_call16_c : Ref sig .tc := ⟨.hbm, 556, rfl⟩
abbrev main_call16_v0 : Ref sig .tc := ⟨.hbm, 557, rfl⟩
abbrev main_call16_v1 : Ref sig .tc := ⟨.hbm, 558, rfl⟩
abbrev main_call16_c_0 : Ref sig .tc := ⟨.hbm, 559, rfl⟩
abbrev main_call16_v2 : Ref sig .tc := ⟨.hbm, 560, rfl⟩
abbrev main_call16_v3 : Ref sig .tc := ⟨.hbm, 561, rfl⟩
abbrev main_call16_v4 : Ref sig .tc := ⟨.hbm, 562, rfl⟩
abbrev main_call16_v5 : Ref sig .tc := ⟨.hbm, 563, rfl⟩
abbrev main_call16_c_1 : Ref sig .tc := ⟨.hbm, 564, rfl⟩
abbrev main_call16_c_2 : Ref sig .tc := ⟨.hbm, 565, rfl⟩
abbrev main_call16_v6 : Ref sig .tc := ⟨.hbm, 566, rfl⟩
abbrev main_call16_v7 : Ref sig .tc := ⟨.hbm, 567, rfl⟩
abbrev main_call16_v8 : Ref sig .tc := ⟨.hbm, 568, rfl⟩
abbrev main_call16_v9 : Ref sig .tc := ⟨.hbm, 569, rfl⟩
abbrev main_call16_v10 : Ref sig .tc := ⟨.hbm, 570, rfl⟩
abbrev main_call16_v11 : Ref sig .tc := ⟨.hbm, 571, rfl⟩
abbrev main_call16_c_3 : Ref sig .tc := ⟨.hbm, 572, rfl⟩
abbrev main_call16_v12 : Ref sig .tc := ⟨.hbm, 573, rfl⟩
abbrev main_call16_v13 : Ref sig .tc := ⟨.hbm, 574, rfl⟩
abbrev main_call16_cst : Ref sig .tc := ⟨.hbm, 575, rfl⟩
abbrev main_call16_v14 : Ref sig .tc := ⟨.hbm, 576, rfl⟩
abbrev main_v304 : Ref sig .tc := ⟨.hbm, 577, rfl⟩
abbrev main_v305 : Ref sig .tc := ⟨.hbm, 578, rfl⟩
abbrev main_v306 : Ref sig .tc := ⟨.hbm, 579, rfl⟩
abbrev main_v307 : Ref sig .tc := ⟨.hbm, 580, rfl⟩
abbrev main_v308 : Ref sig .tc := ⟨.hbm, 581, rfl⟩
abbrev main_v309 : Ref sig .tc := ⟨.hbm, 582, rfl⟩
abbrev main_v310 : Ref sig .tc := ⟨.hbm, 583, rfl⟩
abbrev main_cst_71 : Ref sig .tc := ⟨.hbm, 584, rfl⟩
abbrev main_v311 : Ref sig .tc := ⟨.hbm, 585, rfl⟩
abbrev main_v312 : Ref sig .tc := ⟨.hbm, 586, rfl⟩
abbrev main_cst_72 : Ref sig .tc := ⟨.hbm, 587, rfl⟩
abbrev main_v313 : Ref sig .tc := ⟨.hbm, 588, rfl⟩
abbrev main_v314 : Ref sig .tc := ⟨.hbm, 589, rfl⟩
abbrev main_v315 : Ref sig .tc := ⟨.hbm, 590, rfl⟩
abbrev main_v316 : Ref sig .tc := ⟨.hbm, 591, rfl⟩
abbrev main_cst_73 : Ref sig .tc := ⟨.hbm, 592, rfl⟩
abbrev main_v317 : Ref sig .tc := ⟨.hbm, 593, rfl⟩
abbrev main_v318 : Ref sig .tc := ⟨.hbm, 594, rfl⟩
abbrev main_v319 : Ref sig .tc := ⟨.hbm, 595, rfl⟩
abbrev main_v320 : Ref sig .tc := ⟨.hbm, 596, rfl⟩
abbrev main_cst_74 : Ref sig .tc := ⟨.hbm, 597, rfl⟩
abbrev main_v321 : Ref sig .tc := ⟨.hbm, 598, rfl⟩
abbrev main_v322 : Ref sig .tc := ⟨.hbm, 599, rfl⟩
abbrev main_cst_75 : Ref sig .tc := ⟨.hbm, 600, rfl⟩
abbrev main_v323 : Ref sig .tc := ⟨.hbm, 601, rfl⟩
abbrev main_v324 : Ref sig .tc := ⟨.hbm, 602, rfl⟩
abbrev main_c_76 : Ref sig .tc := ⟨.hbm, 603, rfl⟩
abbrev main_v325 : Ref sig .tc := ⟨.hbm, 604, rfl⟩
abbrev main_v326 : Ref sig .tc := ⟨.hbm, 605, rfl⟩
abbrev main_v327 : Ref sig .tc := ⟨.hbm, 606, rfl⟩
abbrev main_v328 : Ref sig .tc := ⟨.hbm, 607, rfl⟩
abbrev main_v329 : Ref sig .tc := ⟨.hbm, 608, rfl⟩
abbrev main_cst_77 : Ref sig .tc := ⟨.hbm, 609, rfl⟩
abbrev main_v330 : Ref sig .tc := ⟨.hbm, 610, rfl⟩
abbrev main_v331 : Ref sig .tc := ⟨.hbm, 611, rfl⟩
abbrev main_v332 : Ref sig .tc := ⟨.hbm, 612, rfl⟩
abbrev main_c_78 : Ref sig .tc := ⟨.hbm, 613, rfl⟩
abbrev main_v333 : Ref sig .tc := ⟨.hbm, 614, rfl⟩
abbrev main_v334 : Ref sig .tc := ⟨.hbm, 615, rfl⟩
abbrev main_v335 : Ref sig .tc := ⟨.hbm, 616, rfl⟩
abbrev main_v336 : Ref sig .tc := ⟨.hbm, 617, rfl⟩
abbrev main_v337 : Ref sig .tc := ⟨.hbm, 618, rfl⟩
abbrev main_v338 : Ref sig .tc := ⟨.hbm, 619, rfl⟩
abbrev main_c_79 : Ref sig .tc := ⟨.hbm, 620, rfl⟩
abbrev main_v339 : Ref sig .tc := ⟨.hbm, 621, rfl⟩
abbrev main_c_80 : Ref sig .tc := ⟨.hbm, 622, rfl⟩
abbrev main_call17_v0 : Ref sig .tc := ⟨.hbm, 623, rfl⟩
abbrev main_call17_v1 : Ref sig .tc := ⟨.hbm, 624, rfl⟩
abbrev main_call17_v2 : Ref sig .tc := ⟨.hbm, 625, rfl⟩
abbrev main_call17_v3 : Ref sig .tc := ⟨.hbm, 626, rfl⟩
abbrev main_call17_v4 : Ref sig .tc := ⟨.hbm, 627, rfl⟩
abbrev main_v340 : Ref sig .tc := ⟨.hbm, 628, rfl⟩
abbrev main_v341 : Ref sig .tc := ⟨.hbm, 629, rfl⟩
abbrev main_c_81 : Ref sig .tc := ⟨.hbm, 630, rfl⟩
abbrev main_v342 : Ref sig .tc := ⟨.hbm, 631, rfl⟩
abbrev main_c_82 : Ref sig .tc := ⟨.hbm, 632, rfl⟩
abbrev main_call18_v0 : Ref sig .tc := ⟨.hbm, 633, rfl⟩
abbrev main_call18_v1 : Ref sig .tc := ⟨.hbm, 634, rfl⟩
abbrev main_call18_v2 : Ref sig .tc := ⟨.hbm, 635, rfl⟩
abbrev main_call18_v3 : Ref sig .tc := ⟨.hbm, 636, rfl⟩
abbrev main_call18_v4 : Ref sig .tc := ⟨.hbm, 637, rfl⟩
abbrev main_v343 : Ref sig .tc := ⟨.hbm, 638, rfl⟩
abbrev main_v344 : Ref sig .tc := ⟨.hbm, 639, rfl⟩
abbrev main_v345 : Ref sig .tc := ⟨.hbm, 640, rfl⟩
abbrev main_v346 : Ref sig .tc := ⟨.hbm, 641, rfl⟩
abbrev main_v347 : Ref sig .tc := ⟨.hbm, 642, rfl⟩
abbrev main_v348 : Ref sig .tc := ⟨.hbm, 643, rfl⟩
abbrev main_v349 : Ref sig .tc := ⟨.hbm, 644, rfl⟩
abbrev main_call19_c : Ref sig .tc := ⟨.hbm, 645, rfl⟩
abbrev main_call19_v0 : Ref sig .tc := ⟨.hbm, 646, rfl⟩
abbrev main_call19_v1 : Ref sig .tc := ⟨.hbm, 647, rfl⟩
abbrev main_call19_c_0 : Ref sig .tc := ⟨.hbm, 648, rfl⟩
abbrev main_call19_v2 : Ref sig .tc := ⟨.hbm, 649, rfl⟩
abbrev main_call19_v3 : Ref sig .tc := ⟨.hbm, 650, rfl⟩
abbrev main_call19_v4 : Ref sig .tc := ⟨.hbm, 651, rfl⟩
abbrev main_call19_v5 : Ref sig .tc := ⟨.hbm, 652, rfl⟩
abbrev main_call19_c_1 : Ref sig .tc := ⟨.hbm, 653, rfl⟩
abbrev main_call19_c_2 : Ref sig .tc := ⟨.hbm, 654, rfl⟩
abbrev main_call19_v6 : Ref sig .tc := ⟨.hbm, 655, rfl⟩
abbrev main_call19_v7 : Ref sig .tc := ⟨.hbm, 656, rfl⟩
abbrev main_call19_v8 : Ref sig .tc := ⟨.hbm, 657, rfl⟩
abbrev main_call19_v9 : Ref sig .tc := ⟨.hbm, 658, rfl⟩
abbrev main_call19_v10 : Ref sig .tc := ⟨.hbm, 659, rfl⟩
abbrev main_call19_v11 : Ref sig .tc := ⟨.hbm, 660, rfl⟩
abbrev main_call19_c_3 : Ref sig .tc := ⟨.hbm, 661, rfl⟩
abbrev main_call19_v12 : Ref sig .tc := ⟨.hbm, 662, rfl⟩
abbrev main_call19_v13 : Ref sig .tc := ⟨.hbm, 663, rfl⟩
abbrev main_call19_cst : Ref sig .tc := ⟨.hbm, 664, rfl⟩
abbrev main_call19_v14 : Ref sig .tc := ⟨.hbm, 665, rfl⟩
abbrev main_v350 : Ref sig .tc := ⟨.hbm, 666, rfl⟩
abbrev main_v351 : Ref sig .tc := ⟨.hbm, 667, rfl⟩
abbrev main_v352 : Ref sig .tc := ⟨.hbm, 668, rfl⟩
abbrev main_v353 : Ref sig .tc := ⟨.hbm, 669, rfl⟩
abbrev main_v354 : Ref sig .tc := ⟨.hbm, 670, rfl⟩
abbrev main_v355 : Ref sig .tc := ⟨.hbm, 671, rfl⟩
abbrev main_v356 : Ref sig .tc := ⟨.hbm, 672, rfl⟩
abbrev main_cst_83 : Ref sig .tc := ⟨.hbm, 673, rfl⟩
abbrev main_v357 : Ref sig .tc := ⟨.hbm, 674, rfl⟩
abbrev main_v358 : Ref sig .tc := ⟨.hbm, 675, rfl⟩
abbrev main_cst_84 : Ref sig .tc := ⟨.hbm, 676, rfl⟩
abbrev main_v359 : Ref sig .tc := ⟨.hbm, 677, rfl⟩
abbrev main_v360 : Ref sig .tc := ⟨.hbm, 678, rfl⟩
abbrev main_v361 : Ref sig .tc := ⟨.hbm, 679, rfl⟩
abbrev main_v362 : Ref sig .tc := ⟨.hbm, 680, rfl⟩
abbrev main_cst_85 : Ref sig .tc := ⟨.hbm, 681, rfl⟩
abbrev main_v363 : Ref sig .tc := ⟨.hbm, 682, rfl⟩
abbrev main_v364 : Ref sig .tc := ⟨.hbm, 683, rfl⟩
abbrev main_v365 : Ref sig .tc := ⟨.hbm, 684, rfl⟩
abbrev main_v366 : Ref sig .tc := ⟨.hbm, 685, rfl⟩
abbrev main_cst_86 : Ref sig .tc := ⟨.hbm, 686, rfl⟩
abbrev main_v367 : Ref sig .tc := ⟨.hbm, 687, rfl⟩
abbrev main_v368 : Ref sig .tc := ⟨.hbm, 688, rfl⟩
abbrev main_cst_87 : Ref sig .tc := ⟨.hbm, 689, rfl⟩
abbrev main_v369 : Ref sig .tc := ⟨.hbm, 690, rfl⟩
abbrev main_v370 : Ref sig .tc := ⟨.hbm, 691, rfl⟩
abbrev main_c_88 : Ref sig .tc := ⟨.hbm, 692, rfl⟩
abbrev main_v371 : Ref sig .tc := ⟨.hbm, 693, rfl⟩
abbrev main_v372 : Ref sig .tc := ⟨.hbm, 694, rfl⟩
abbrev main_v373 : Ref sig .tc := ⟨.hbm, 695, rfl⟩
abbrev main_v374 : Ref sig .tc := ⟨.hbm, 696, rfl⟩
abbrev main_v375 : Ref sig .tc := ⟨.hbm, 697, rfl⟩
abbrev main_cst_89 : Ref sig .tc := ⟨.hbm, 698, rfl⟩
abbrev main_v376 : Ref sig .tc := ⟨.hbm, 699, rfl⟩
abbrev main_v377 : Ref sig .tc := ⟨.hbm, 700, rfl⟩
abbrev main_v378 : Ref sig .tc := ⟨.hbm, 701, rfl⟩
abbrev main_c_90 : Ref sig .tc := ⟨.hbm, 702, rfl⟩
abbrev main_v379 : Ref sig .tc := ⟨.hbm, 703, rfl⟩
abbrev main_v380 : Ref sig .tc := ⟨.hbm, 704, rfl⟩
abbrev main_v381 : Ref sig .tc := ⟨.hbm, 705, rfl⟩
abbrev main_v382 : Ref sig .tc := ⟨.hbm, 706, rfl⟩
abbrev main_v383 : Ref sig .tc := ⟨.hbm, 707, rfl⟩
abbrev main_v384 : Ref sig .tc := ⟨.hbm, 708, rfl⟩
abbrev main_c_91 : Ref sig .tc := ⟨.hbm, 709, rfl⟩
abbrev main_v385 : Ref sig .tc := ⟨.hbm, 710, rfl⟩
abbrev main_c_92 : Ref sig .tc := ⟨.hbm, 711, rfl⟩
abbrev main_call20_v0 : Ref sig .tc := ⟨.hbm, 712, rfl⟩
abbrev main_call20_v1 : Ref sig .tc := ⟨.hbm, 713, rfl⟩
abbrev main_call20_v2 : Ref sig .tc := ⟨.hbm, 714, rfl⟩
abbrev main_call20_v3 : Ref sig .tc := ⟨.hbm, 715, rfl⟩
abbrev main_call20_v4 : Ref sig .tc := ⟨.hbm, 716, rfl⟩
abbrev main_v386 : Ref sig .tc := ⟨.hbm, 717, rfl⟩
abbrev main_v387 : Ref sig .tc := ⟨.hbm, 718, rfl⟩
abbrev main_c_93 : Ref sig .tc := ⟨.hbm, 719, rfl⟩
abbrev main_v388 : Ref sig .tc := ⟨.hbm, 720, rfl⟩
abbrev main_c_94 : Ref sig .tc := ⟨.hbm, 721, rfl⟩
abbrev main_call21_v0 : Ref sig .tc := ⟨.hbm, 722, rfl⟩
abbrev main_call21_v1 : Ref sig .tc := ⟨.hbm, 723, rfl⟩
abbrev main_call21_v2 : Ref sig .tc := ⟨.hbm, 724, rfl⟩
abbrev main_call21_v3 : Ref sig .tc := ⟨.hbm, 725, rfl⟩
abbrev main_call21_v4 : Ref sig .tc := ⟨.hbm, 726, rfl⟩
abbrev main_v389 : Ref sig .tc := ⟨.hbm, 727, rfl⟩
abbrev main_v390 : Ref sig .tc := ⟨.hbm, 728, rfl⟩
abbrev main_v391 : Ref sig .tc := ⟨.hbm, 729, rfl⟩
abbrev main_v392 : Ref sig .tc := ⟨.hbm, 730, rfl⟩
abbrev main_v393 : Ref sig .tc := ⟨.hbm, 731, rfl⟩
abbrev main_v394 : Ref sig .tc := ⟨.hbm, 732, rfl⟩
abbrev main_v395 : Ref sig .tc := ⟨.hbm, 733, rfl⟩
abbrev main_call22_c : Ref sig .tc := ⟨.hbm, 734, rfl⟩
abbrev main_call22_v0 : Ref sig .tc := ⟨.hbm, 735, rfl⟩
abbrev main_call22_v1 : Ref sig .tc := ⟨.hbm, 736, rfl⟩
abbrev main_call22_c_0 : Ref sig .tc := ⟨.hbm, 737, rfl⟩
abbrev main_call22_v2 : Ref sig .tc := ⟨.hbm, 738, rfl⟩
abbrev main_call22_v3 : Ref sig .tc := ⟨.hbm, 739, rfl⟩
abbrev main_call22_v4 : Ref sig .tc := ⟨.hbm, 740, rfl⟩
abbrev main_call22_v5 : Ref sig .tc := ⟨.hbm, 741, rfl⟩
abbrev main_call22_c_1 : Ref sig .tc := ⟨.hbm, 742, rfl⟩
abbrev main_call22_c_2 : Ref sig .tc := ⟨.hbm, 743, rfl⟩
abbrev main_call22_v6 : Ref sig .tc := ⟨.hbm, 744, rfl⟩
abbrev main_call22_v7 : Ref sig .tc := ⟨.hbm, 745, rfl⟩
abbrev main_call22_v8 : Ref sig .tc := ⟨.hbm, 746, rfl⟩
abbrev main_call22_v9 : Ref sig .tc := ⟨.hbm, 747, rfl⟩
abbrev main_call22_v10 : Ref sig .tc := ⟨.hbm, 748, rfl⟩
abbrev main_call22_v11 : Ref sig .tc := ⟨.hbm, 749, rfl⟩
abbrev main_call22_c_3 : Ref sig .tc := ⟨.hbm, 750, rfl⟩
abbrev main_call22_v12 : Ref sig .tc := ⟨.hbm, 751, rfl⟩
abbrev main_call22_v13 : Ref sig .tc := ⟨.hbm, 752, rfl⟩
abbrev main_call22_cst : Ref sig .tc := ⟨.hbm, 753, rfl⟩
abbrev main_call22_v14 : Ref sig .tc := ⟨.hbm, 754, rfl⟩
abbrev main_v396 : Ref sig .tc := ⟨.hbm, 755, rfl⟩
abbrev main_v397 : Ref sig .tc := ⟨.hbm, 756, rfl⟩
abbrev main_v398 : Ref sig .tc := ⟨.hbm, 757, rfl⟩
abbrev main_v399 : Ref sig .tc := ⟨.hbm, 758, rfl⟩
abbrev main_v400 : Ref sig .tc := ⟨.hbm, 759, rfl⟩
abbrev main_v401 : Ref sig .tc := ⟨.hbm, 760, rfl⟩
abbrev main_v402 : Ref sig .tc := ⟨.hbm, 761, rfl⟩
abbrev main_cst_95 : Ref sig .tc := ⟨.hbm, 762, rfl⟩
abbrev main_v403 : Ref sig .tc := ⟨.hbm, 763, rfl⟩
abbrev main_v404 : Ref sig .tc := ⟨.hbm, 764, rfl⟩
abbrev main_cst_96 : Ref sig .tc := ⟨.hbm, 765, rfl⟩
abbrev main_v405 : Ref sig .tc := ⟨.hbm, 766, rfl⟩
abbrev main_v406 : Ref sig .tc := ⟨.hbm, 767, rfl⟩
abbrev main_v407 : Ref sig .tc := ⟨.hbm, 768, rfl⟩
abbrev main_v408 : Ref sig .tc := ⟨.hbm, 769, rfl⟩
abbrev main_cst_97 : Ref sig .tc := ⟨.hbm, 770, rfl⟩
abbrev main_v409 : Ref sig .tc := ⟨.hbm, 771, rfl⟩
abbrev main_v410 : Ref sig .tc := ⟨.hbm, 772, rfl⟩
abbrev main_v411 : Ref sig .tc := ⟨.hbm, 773, rfl⟩
abbrev main_v412 : Ref sig .tc := ⟨.hbm, 774, rfl⟩
abbrev main_cst_98 : Ref sig .tc := ⟨.hbm, 775, rfl⟩
abbrev main_v413 : Ref sig .tc := ⟨.hbm, 776, rfl⟩
abbrev main_v414 : Ref sig .tc := ⟨.hbm, 777, rfl⟩
abbrev main_cst_99 : Ref sig .tc := ⟨.hbm, 778, rfl⟩
abbrev main_v415 : Ref sig .tc := ⟨.hbm, 779, rfl⟩
abbrev main_v416 : Ref sig .tc := ⟨.hbm, 780, rfl⟩
abbrev main_c_100 : Ref sig .tc := ⟨.hbm, 781, rfl⟩
abbrev main_v417 : Ref sig .tc := ⟨.hbm, 782, rfl⟩
abbrev main_v418 : Ref sig .tc := ⟨.hbm, 783, rfl⟩
abbrev main_v419 : Ref sig .tc := ⟨.hbm, 784, rfl⟩
abbrev main_v420 : Ref sig .tc := ⟨.hbm, 785, rfl⟩
abbrev main_v421 : Ref sig .tc := ⟨.hbm, 786, rfl⟩
abbrev main_cst_101 : Ref sig .tc := ⟨.hbm, 787, rfl⟩
abbrev main_v422 : Ref sig .tc := ⟨.hbm, 788, rfl⟩
abbrev main_v423 : Ref sig .tc := ⟨.hbm, 789, rfl⟩
abbrev main_v424 : Ref sig .tc := ⟨.hbm, 790, rfl⟩
abbrev main_c_102 : Ref sig .tc := ⟨.hbm, 791, rfl⟩
abbrev main_v425 : Ref sig .tc := ⟨.hbm, 792, rfl⟩
abbrev main_v426 : Ref sig .tc := ⟨.hbm, 793, rfl⟩
abbrev main_v427 : Ref sig .tc := ⟨.hbm, 794, rfl⟩
abbrev main_v428 : Ref sig .tc := ⟨.hbm, 795, rfl⟩
abbrev main_v429 : Ref sig .tc := ⟨.hbm, 796, rfl⟩
abbrev main_v430 : Ref sig .tc := ⟨.hbm, 797, rfl⟩
abbrev main_c_103 : Ref sig .tc := ⟨.hbm, 798, rfl⟩
abbrev main_v431 : Ref sig .tc := ⟨.hbm, 799, rfl⟩
abbrev main_c_104 : Ref sig .tc := ⟨.hbm, 800, rfl⟩
abbrev main_call23_v0 : Ref sig .tc := ⟨.hbm, 801, rfl⟩
abbrev main_call23_v1 : Ref sig .tc := ⟨.hbm, 802, rfl⟩
abbrev main_call23_v2 : Ref sig .tc := ⟨.hbm, 803, rfl⟩
abbrev main_call23_v3 : Ref sig .tc := ⟨.hbm, 804, rfl⟩
abbrev main_call23_v4 : Ref sig .tc := ⟨.hbm, 805, rfl⟩
abbrev main_v432 : Ref sig .tc := ⟨.hbm, 806, rfl⟩
abbrev main_v433 : Ref sig .tc := ⟨.hbm, 807, rfl⟩
abbrev main_c_105 : Ref sig .tc := ⟨.hbm, 808, rfl⟩
abbrev main_v434 : Ref sig .tc := ⟨.hbm, 809, rfl⟩
abbrev main_c_106 : Ref sig .tc := ⟨.hbm, 810, rfl⟩
abbrev main_call24_v0 : Ref sig .tc := ⟨.hbm, 811, rfl⟩
abbrev main_call24_v1 : Ref sig .tc := ⟨.hbm, 812, rfl⟩
abbrev main_call24_v2 : Ref sig .tc := ⟨.hbm, 813, rfl⟩
abbrev main_call24_v3 : Ref sig .tc := ⟨.hbm, 814, rfl⟩
abbrev main_call24_v4 : Ref sig .tc := ⟨.hbm, 815, rfl⟩
abbrev main_v435 : Ref sig .tc := ⟨.hbm, 816, rfl⟩
abbrev main_v436 : Ref sig .tc := ⟨.hbm, 817, rfl⟩
abbrev main_v437 : Ref sig .tc := ⟨.hbm, 818, rfl⟩
abbrev main_v438 : Ref sig .tc := ⟨.hbm, 819, rfl⟩
abbrev main_v439 : Ref sig .tc := ⟨.hbm, 820, rfl⟩
abbrev main_v440 : Ref sig .tc := ⟨.hbm, 821, rfl⟩
abbrev main_v441 : Ref sig .tc := ⟨.hbm, 822, rfl⟩
abbrev main_call25_c : Ref sig .tc := ⟨.hbm, 823, rfl⟩
abbrev main_call25_v0 : Ref sig .tc := ⟨.hbm, 824, rfl⟩
abbrev main_call25_v1 : Ref sig .tc := ⟨.hbm, 825, rfl⟩
abbrev main_call25_c_0 : Ref sig .tc := ⟨.hbm, 826, rfl⟩
abbrev main_call25_v2 : Ref sig .tc := ⟨.hbm, 827, rfl⟩
abbrev main_call25_v3 : Ref sig .tc := ⟨.hbm, 828, rfl⟩
abbrev main_call25_v4 : Ref sig .tc := ⟨.hbm, 829, rfl⟩
abbrev main_call25_v5 : Ref sig .tc := ⟨.hbm, 830, rfl⟩
abbrev main_call25_c_1 : Ref sig .tc := ⟨.hbm, 831, rfl⟩
abbrev main_call25_c_2 : Ref sig .tc := ⟨.hbm, 832, rfl⟩
abbrev main_call25_v6 : Ref sig .tc := ⟨.hbm, 833, rfl⟩
abbrev main_call25_v7 : Ref sig .tc := ⟨.hbm, 834, rfl⟩
abbrev main_call25_v8 : Ref sig .tc := ⟨.hbm, 835, rfl⟩
abbrev main_call25_v9 : Ref sig .tc := ⟨.hbm, 836, rfl⟩
abbrev main_call25_v10 : Ref sig .tc := ⟨.hbm, 837, rfl⟩
abbrev main_call25_v11 : Ref sig .tc := ⟨.hbm, 838, rfl⟩
abbrev main_call25_c_3 : Ref sig .tc := ⟨.hbm, 839, rfl⟩
abbrev main_call25_v12 : Ref sig .tc := ⟨.hbm, 840, rfl⟩
abbrev main_call25_v13 : Ref sig .tc := ⟨.hbm, 841, rfl⟩
abbrev main_call25_cst : Ref sig .tc := ⟨.hbm, 842, rfl⟩
abbrev main_call25_v14 : Ref sig .tc := ⟨.hbm, 843, rfl⟩
abbrev main_v442 : Ref sig .tc := ⟨.hbm, 844, rfl⟩
abbrev main_v443 : Ref sig .tc := ⟨.hbm, 845, rfl⟩
abbrev main_v444 : Ref sig .tc := ⟨.hbm, 846, rfl⟩
abbrev main_v445 : Ref sig .tc := ⟨.hbm, 847, rfl⟩
abbrev main_v446 : Ref sig .tc := ⟨.hbm, 848, rfl⟩
abbrev main_v447 : Ref sig .tc := ⟨.hbm, 849, rfl⟩
abbrev main_v448 : Ref sig .tc := ⟨.hbm, 850, rfl⟩
abbrev main_v449 : Ref sig .tc := ⟨.hbm, 851, rfl⟩
abbrev main_v450 : Ref sig .tc := ⟨.hbm, 852, rfl⟩
abbrev main_cst_107 : Ref sig .tc := ⟨.hbm, 853, rfl⟩
abbrev main_v451 : Ref sig .tc := ⟨.hbm, 854, rfl⟩
abbrev main_v452 : Ref sig .tc := ⟨.hbm, 855, rfl⟩
abbrev main_cst_108 : Ref sig .tc := ⟨.hbm, 856, rfl⟩
abbrev main_v453 : Ref sig .tc := ⟨.hbm, 857, rfl⟩
abbrev main_cst_109 : Ref sig .tc := ⟨.hbm, 858, rfl⟩
abbrev main_v454 : Ref sig .tc := ⟨.hbm, 859, rfl⟩
abbrev main_v455 : Ref sig .tc := ⟨.hbm, 860, rfl⟩
abbrev main_v456 : Ref sig .tc := ⟨.hbm, 861, rfl⟩
abbrev main_v457 : Ref sig .tc := ⟨.hbm, 862, rfl⟩
abbrev main_v458 : Ref sig .tc := ⟨.hbm, 863, rfl⟩
abbrev main_v459 : Ref sig .tc := ⟨.hbm, 864, rfl⟩
abbrev main_cst_110 : Ref sig .tc := ⟨.hbm, 865, rfl⟩
abbrev main_v460 : Ref sig .tc := ⟨.hbm, 866, rfl⟩
abbrev main_v461 : Ref sig .tc := ⟨.hbm, 867, rfl⟩
abbrev main_v462 : Ref sig .tc := ⟨.hbm, 868, rfl⟩
abbrev main_v463 : Ref sig .tc := ⟨.hbm, 869, rfl⟩
abbrev main_v464 : Ref sig .tc := ⟨.hbm, 870, rfl⟩
abbrev main_v465 : Ref sig .tc := ⟨.hbm, 871, rfl⟩
abbrev main_v466 : Ref sig .tc := ⟨.hbm, 872, rfl⟩
abbrev main_v467 : Ref sig .tc := ⟨.hbm, 873, rfl⟩
abbrev main_v468 : Ref sig .tc := ⟨.hbm, 874, rfl⟩
abbrev main_v469 : Ref sig .tc := ⟨.hbm, 875, rfl⟩
abbrev main_v470 : Ref sig .tc := ⟨.hbm, 876, rfl⟩
abbrev main_v471 : Ref sig .tc := ⟨.hbm, 877, rfl⟩

abbrev nD : Nat := 1
abbrev τ : Topo := Topo.v7x

variable {F : FTy → Type} [FloatOps F]
-- ==== Proof.Spec.lean ====
/-
  What the program computes when its offset predictor is zero: every token attends to itself alone, so the attended
  value is the token's own value row, and the result is that row under the output projection. Stated once, as plain
  sums over the extended reals, for the kernel's side and the reference's side to meet at.
-/
module

public import Idealize.ShloMosaic.Lib.Pointwise

@[expose] public section

noncomputable section

namespace Cert.Spec

open Idealize.ShloMosaic

/-- Feature `e` of the value row of token `n` of batch `b`: the token times row `96 + e` of the key/value weight. -/
def valueRow (x : FVec Ideal ⟨3, ![16, 1024, 96]⟩ .f32) (wkv : FVec Ideal ⟨2, ![192, 96]⟩ .f32)
    (b : Fin 16) (n : Fin 1024) (e : Fin 96) : Ideal .f32 :=
  ∑ k : Fin 96, x (ix3 b n k) * wkv (ix2 ⟨96 + e.val, by omega⟩ k)

/-- The value rows under the output projection: the array both programs end with. -/
def projected (x : FVec Ideal ⟨3, ![16, 1024, 96]⟩ .f32) (wkv : FVec Ideal ⟨2, ![192, 96]⟩ .f32)
    (wout : FVec Ideal ⟨2, ![96, 96]⟩ .f32) : FVec Ideal ⟨3, ![16, 1024, 96]⟩ .f32 :=
  fun j => ∑ e : Fin 96, valueRow x wkv (j 0) (j 1) e * wout (ix2 (j 2) e)

/-- The projection read at a batch, a token and an output feature. -/
theorem projected_apply (x : FVec Ideal ⟨3, ![16, 1024, 96]⟩ .f32) (wkv : FVec Ideal ⟨2, ![192, 96]⟩ .f32)
    (wout : FVec Ideal ⟨2, ![96, 96]⟩ .f32) (b : Fin 16) (n : Fin 1024) (o : Fin 96) :
    projected x wkv wout (ix3 b n o) = ∑ e : Fin 96, valueRow x wkv b n e * wout (ix2 o e) := rfl

end Cert.Spec

end
-- ==== Proof.KernelValue.lean ====
/-
  What the kernel's result array holds after its run: `Cert.Spec.projected` of the arguments, whatever they are.
  One grid point handles eight batches; its body flattens them to 8192 token rows, multiplies by the value half of the
  key/value weight and then by the output weight, and folds the rows back.
-/
module

public import proofs.«01_k».proof.Proof.Gen.KernelIdeal.Value
public import proofs.«01_k».proof.Proof.Spec
public import Idealize.ShloMosaic.Lib.Pointwise
public import Idealize.ShloMosaic.Lib.Pipeline.ValueKit

@[expose] public section

set_option maxRecDepth 16384

noncomputable section

namespace Cert.KernelIdeal.Chain

open Cert.KernelIdeal Cert.KernelIdeal.Gen Idealize.ShloMosaic Idealize.ShloMosaic.TcCoe Idealize.SL.Sem
open Idealize.ShloMosaic.Pipeline (Dat)

/-- What one grid point computes from its three blocks, at batch `a` of the block, token `n`, output feature `o`. -/
theorem body_apply (v0 : Vec Ideal S8x1024x96 .f32) (v2 v4 : Vec Ideal S96x96 .f32) (a : Fin 8) (n : Fin 1024) (o : Fin 96) :
    k0_pay1 v0 v2 v4 (ix3 a n o)
      = ∑ e : Fin 96, (∑ k : Fin 96, v0 (ix3 a n k) * v2 (ix2 e k)) * v4 (ix2 o e) := by
  pointwise [k0_pay1]

variable (m : (ℓ : Loc nD τ sig) → Buf (Elt Ideal) ℓ) (ρ : Dev nD → PrngReg)

/-- The array the kernel ends with, of the arguments in memory. -/
abbrev result (c : Dev nD) : FVec Ideal S16x1024x96 .f32 :=
  Spec.projected (m ((c : Thread nD τ).loc main_arg0)) (m ((c : Thread nD τ).loc main_arg7)) (m ((c : Thread nD τ).loc main_arg9))

/-- After the launch the result array is `result`: the two grid points' blocks cover it and each holds its part. -/
theorem final (c : Dev nD) : (dats m 0 c).arrAt 3 cfg0.N = result m c := by
  have e0 : ∀ t : Fin cfg0.N, win0_0.index t = ![(grid0.coords t 0).val, 0, 0] :=
    (by decide +kernel : ∀ t : Fin grid0.N, _)
  have e1 : ∀ t : Fin cfg0.N, win0_1.index t = ![1, 0] := (by decide +kernel : ∀ t : Fin grid0.N, _)
  have e2 : ∀ t : Fin cfg0.N, win0_2.index t = ![0, 0] := (by decide +kernel : ∀ t : Fin grid0.N, _)
  have e3 : ∀ t : Fin cfg0.N, win0_3.index t = ![(grid0.coords t 0).val, 0, 0] :=
    (by decide +kernel : ∀ t : Fin grid0.N, _)
  refine (dats m 0 c).arrAt_eq_of_covers 3 _ (by decide +kernel) fun t hf y => ?_
  blk_simp
  rw [after0_3]
  frame_out
  idx_vars y
  rw [body_apply]
  blk_simp [iblk]
  have ht : (grid0.coords t 0).val < 2 := (grid0.coords t 0).isLt
  -- where each block's element sits in its array
  have h3 : (win0_3.blk t).view.emb (ix3 y0 y1 y2) = ix3 ⟨(grid0.coords t 0).val * 8 + y0.val, by omega⟩ y1 y2 := by
    blk_ext [e3]
  have h0 : ∀ k : Fin 96, (win0_0.blk t).view.emb (ix3 y0 y1 k)
      = ix3 ⟨(grid0.coords t 0).val * 8 + y0.val, by omega⟩ y1 k := fun k => by blk_ext [e0]
  have h1 : ∀ e k : Fin 96, (win0_1.blk t).view.emb (ix2 e k) = ix2 ⟨96 + e.val, by omega⟩ k := fun e k => by
    blk_ext [e1]
  have h2 : ∀ e : Fin 96, (win0_2.blk t).view.emb (ix2 y2 e) = ix2 y2 e := fun e => by blk_ext [e2]
  rw [h3]
  refine Eq.trans ?_ (Spec.projected_apply ..).symm
  simp only [h0, h1, h2]
  rfl

/-- The kernel's run: the result array is `result`, every argument is as it was. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).1.trans (final m c), (h c).2⟩) (Value.run_blocks m ρ)

end Cert.KernelIdeal.Chain

end
-- ==== Proof.Corner.lean ====
/-
  One corner of the bilinear sampling, as the reference writes it for each of the eight corners it reads (four of the
  key map, four of the value map): the map gathered at the clipped cell, times the corner's weight. Read at one entry.
-/
module

public import proofs.«01_k».proof.Proof.Gen.ReferenceIdeal
public import Idealize.ShloMosaic.Lib.Pointwise

@[expose] public section

set_option maxRecDepth 16384

noncomputable section

namespace Cert.ReferenceIdeal.Sampling

open Cert.ReferenceIdeal Cert.ReferenceIdeal.Gen Idealize.ShloMosaic Facts

/-- One number per batch, head and sampled point. -/
abbrev Points := FVec Ideal S16x3x9216 .f32

/-- The same number at every sampled point. -/
abbrev atAll (v : FVec Ideal S_ .f32) : Points := broadcastInDim S16x3x9216 ![] bcast_S_S16x3x9216 v

/-- The last cell along an axis of `n` cells, as a float. -/
abbrev last (n : IVec S_ 32) : FVec Ideal S_ .f32 := sitofp .f32 (subi n (constantI S_ 32 1#32))

/-- A coordinate held between the first and the last cell of its axis, as an integer. -/
def clipped (n : IVec S_ 32) (v : Points) : IVec S16x3x9216 32 :=
  fptosi 32 (minimumf (atAll (last n)) (maximumf (atAll (sitofp .f32 (constantI S_ 32 0#32))) v))

/-- The row-major number of the clipped cell, for each channel of the point. -/
def cell (h w : IVec S_ 32) (xc yc : Points) : IVec S16x3x9216x32 32 :=
  broadcastInDim S16x3x9216x32 ![0, 1, 2, 3] bcast_S16x3x9216x1_S16x3x9216x32_0_1_2_3
    (broadcastInDim S16x3x9216x1 ![0, 1, 2] bcast_S16x3x9216_S16x3x9216x1_0_1_2
      (addi (muli (clipped h yc) (broadcastInDim S16x3x9216 ![] bcast_S_S16x3x9216 w)) (clipped w xc)))

/-- The index the gather is given: a negative cell number counted from the end. -/
def wrapped (l : IVec S16x3x9216x32 32) : IVec S16x3x9216x32x1 32 :=
  shapeCast _ (select (cmpi .slt l (broadcastInDim S16x3x9216x32 ![] bcast_S_S16x3x9216x32 (constantI S_ 32 0#32)))
    (addi l (broadcastInDim S16x3x9216x32 ![] bcast_S_S16x3x9216x32 (constantI S_ 32 1024#32))) l)
    shapeCasts_S16x3x9216x32_S16x3x9216x32x1

/-- Whether the index names one of the 1024 cells. -/
def inside (l : IVec S16x3x9216x32x1 32) : IVec S16x3x9216x32 1 :=
  Host.reduce IntOp.andi (andi (cmpi .sge l (broadcastInDim S16x3x9216x32x1 ![] bcast_S_S16x3x9216x32x1 (constantI S_ 32 0#32)))
    (cmpi .sle l (broadcastInDim S16x3x9216x32x1 ![0, 1, 2, 3, 4] bcast_S1x1x1x1x1_S16x3x9216x32x1_0_1_2_3_4
      (broadcastInDim S1x1x1x1x1 ![4] bcast_S1_S1x1x1x1x1_4 (constantI S1 32 1023#32)))))
    (constantI S_ 1 1#1) reducesTo_S16x3x9216x32x1_S16x3x9216x32_d4 h_S_

/-- The map's entries at the indices, a fill value where the index names no cell. -/
def fetched (kf : FVec Ideal S16x3x1024x32 .f32) (l : IVec S16x3x9216x32x1 32) : FVec Ideal S16x3x9216x32 .f32 :=
  select (inside l)
    (Host.gather gather_S16x3x1024x32_S16x3x9216x32x1_S16x3x9216x32_n_2_013_013_2_4_1111 kf l)
    (broadcastInDim S16x3x9216x32 ![] bcast_S_S16x3x9216x32 (constant S_ .f32 0x7FC00000#32))

/-- The corner's weight: one less the distance along each axis, and zero off the map. -/
def weight (h w : IVec S_ 32) (gx gy xc yc : Points) : FVec Ideal S16x3x9216x32 .f32 :=
  broadcastInDim S16x3x9216x32 ![0, 1, 2, 3] bcast_S16x3x9216x1_S16x3x9216x32_0_1_2_3
    (broadcastInDim S16x3x9216x1 ![0, 1, 2] bcast_S16x3x9216_S16x3x9216x1_0_1_2
      (mulf (mulf (subf (atAll (constant S_ .f32 0x3F800000#32)) (Host.absf (subf gx xc)))
          (subf (atAll (constant S_ .f32 0x3F800000#32)) (Host.absf (subf gy yc))))
        (uitofp .f32 (andi (andi (andi (cmpf .oge xc (atAll (constant S_ .f32 0x00000000#32))) (cmpf .ole xc (atAll (last w))))
          (cmpf .oge yc (atAll (constant S_ .f32 0x00000000#32)))) (cmpf .ole yc (atAll (last h)))))))

/-- One corner of the sampling at the grid coordinates `gx`, `gy`: the map at the cell `xc`, `yc`, weighted. -/
def corner (kf : FVec Ideal S16x3x1024x32 .f32) (h w : IVec S_ 32) (gx gy xc yc : Points) : FVec Ideal S16x3x9216x32 .f32 :=
  mulf (fetched kf (wrapped (cell h w xc yc))) (weight h w gx gy xc yc)

/-- A cell number as a signed integer. -/
theorem toInt_cell (n : Fin 1024) : (BitVec.ofNat 32 n.val).toInt = n.val := by
  have := n.isLt
  rw [BitVec.toInt_eq_toNat_of_lt (by rw [BitVec.toNat_ofNat]; omega), BitVec.toNat_ofNat]
  omega

/-- Where the two arrays of a corner are read: the gather takes entry `n` of the map at batch `b`, head `hd` and channel
    `c` when the index word there is the number `n`. -/
theorem gather_apply (kf : FVec Ideal S16x3x1024x32 .f32) (l : IVec S16x3x9216x32x1 32) (b : Fin 16) (hd : Fin 3)
    (p : Fin 9216) (c : Fin 32) (n : Fin 1024) (hl : l (ix5 b hd p c 0) = BitVec.ofNat 32 n.val) :
    Host.gather gather_S16x3x1024x32_S16x3x9216x32x1_S16x3x9216x32_n_2_013_013_2_4_1111 kf l (ix4 b hd p c)
      = kf (ix4 b hd n c) := by
  let d := gather_S16x3x1024x32_S16x3x9216x32x1_S16x3x9216x32_n_2_013_013_2_4_1111
  have hoff : ∀ a : Fin 4, d.offCoord (ix4 b hd p c) a = 0 := fun a =>
    d.offCoord_eq_zero _ _ (by fin_cases a <;> decide)
  have hsi : d.siIdx (ix4 b hd p c) ⟨d.startIndexMap.idxOf (2 : Fin 4), by decide⟩ = ix5 b hd p c 0 := by
    funext a
    refine Fin.ext ?_
    match a with
    | ⟨0, _⟩ => rfl
    | ⟨1, _⟩ => rfl
    | ⟨2, _⟩ => rfl
    | ⟨3, _⟩ => rfl
    | ⟨4, _⟩ => rfl
  have hn : (BitVec.ofNat 32 n.val).toInt.toNat = n.val := by
    rw [toInt_cell]
    rfl
  have hst : ∀ a : Fin 4, a ∉ d.startIndexMap → d.start (ix4 b hd p c) l a = 0 := fun a ha => by
    unfold GatherDims.start
    rw [dif_neg ha]
  have hb : ∀ a : Fin 4, a ≠ 2 → d.batchCoord (ix4 b hd p c) a = (ix4 b hd n c a).val := fun a ha => by
    fin_cases a
    · rfl
    · rfl
    · exact absurd rfl ha
    · rfl
  unfold Host.gather
  refine congrArg kf (funext fun (a : Fin 4) => Fin.ext ?_)
  show d.start (ix4 b hd p c) l a + d.batchCoord (ix4 b hd p c) a + d.offCoord (ix4 b hd p c) a = (ix4 b hd n c a).val
  rw [hoff]
  by_cases ha : a = 2
  · subst ha
    rw [d.batchCoord_eq_zero _ _ (by decide)]
    unfold GatherDims.start
    rw [dif_pos (by decide), hsi, hl, hn]
    have := n.isLt
    show min n.val (1024 - 1) + 0 + 0 = n.val
    omega
  · rw [hst a (by revert ha; revert a; decide), hb a ha]
    omega

/-- The integer 31 as a float. -/
theorem last_word : (FloatOps.sitofp .f32 (IntOp.subi 32#32 1#32) : Ideal .f32) = ((31 : ℝ) : EReal) := by
  show ((((IntOp.subi 32#32 1#32 : BitVec 32).toInt : ℤ) : ℝ) : EReal) = _
  rw [show ((IntOp.subi 32#32 1#32 : BitVec 32).toInt : ℤ) = 31 by decide]
  norm_num

/-- The integer 0 as a float. -/
theorem first_word : (FloatOps.sitofp .f32 (0#32) : Ideal .f32) = ((0 : ℝ) : EReal) := by
  show ((((0#32 : BitVec 32).toInt : ℤ) : ℝ) : EReal) = _
  rw [show ((0#32 : BitVec 32).toInt : ℤ) = 0 by decide]
  norm_num

/-- A whole number below 32 is its own conversion to an integer. -/
theorem word_of (k : Fin 32) : FloatOps.fptosi (F := Ideal) (φ := .f32) 32 (((k.val : ℝ) : EReal)) = BitVec.ofNat 32 k.val := by
  have hk : (k.val : ℤ) < 32 := by exact_mod_cast k.isLt
  show BitVec.ofInt 32 (max _ (min _ (if (0 : ℝ) ≤ (k.val : ℝ) then ⌊(k.val : ℝ)⌋ else ⌈(k.val : ℝ)⌉))) = _
  rw [if_pos (Nat.cast_nonneg _), Int.floor_natCast, min_eq_right (by omega), max_eq_right (by omega)]
  exact BitVec.ofInt_natCast 32 k.val

/-- A whole coordinate on the axis is its own clipped cell. -/
theorem clipped_apply (n : IVec S_ 32) (hn : n ix0 = 32#32) (v : Points) (b : Fin 16) (hd : Fin 3) (p : Fin 9216)
    (k : Fin 32) (hv : v (ix3 b hd p) = ((k.val : ℝ) : EReal)) : clipped n v (ix3 b hd p) = BitVec.ofNat 32 k.val := by
  have hk : (k.val : ℝ) ≤ 31 := by exact_mod_cast Nat.le_of_lt_succ k.isLt
  pointwise [clipped, atAll, last, hn, hv]
  rw [last_word, first_word, max_eq_right (EReal.coe_le_coe_iff.2 (Nat.cast_nonneg _)),
    min_eq_right (EReal.coe_le_coe_iff.2 hk)]
  exact word_of k

/-- The cell number at whole coordinates on the map. -/
theorem cell_apply (h w : IVec S_ 32) (hh : h ix0 = 32#32) (hw : w ix0 = 32#32) (xc yc : Points) (b : Fin 16) (hd : Fin 3)
    (p : Fin 9216) (c : Fin 32) (x y : Fin 32) (hx : xc (ix3 b hd p) = ((x.val : ℝ) : EReal))
    (hy : yc (ix3 b hd p) = ((y.val : ℝ) : EReal)) :
    cell h w xc yc (ix4 b hd p c) = BitVec.ofNat 32 (32 * y.val + x.val) := by
  have h1 := clipped_apply w hw xc b hd p x hx
  have h2 := clipped_apply h hh yc b hd p y hy
  pointwise [cell]
  rw [h1, h2, hw]
  show BitVec.ofNat 32 y.val * BitVec.ofNat 32 32 + BitVec.ofNat 32 x.val = _
  rw [← BitVec.ofNat_mul, ← BitVec.ofNat_add, Nat.mul_comm]

/-- A cell number is not negative. -/
theorem not_negative (n : Fin 1024) : IntOp.cmpi .slt (BitVec.ofNat 32 n.val) 0#32 = 0#1 := by
  show BitVec.ofBool (BitVec.slt _ _) = _
  rw [BitVec.slt_eq_decide, toInt_cell, show (0#32 : BitVec 32).toInt = 0 by decide, decide_eq_false (by omega)]
  rfl

/-- A cell number is not counted from the end. -/
theorem wrapped_apply (l : IVec S16x3x9216x32 32) (b : Fin 16) (hd : Fin 3) (p : Fin 9216) (c : Fin 32) (n : Fin 1024)
    (hl : l (ix4 b hd p c) = BitVec.ofNat 32 n.val) : wrapped l (ix5 b hd p c 0) = BitVec.ofNat 32 n.val := by
  pointwise [wrapped, hl]
  rw [not_negative]
  rfl

/-- A cell number is inside the map. -/
theorem inside_apply (l : IVec S16x3x9216x32x1 32) (b : Fin 16) (hd : Fin 3) (p : Fin 9216) (c : Fin 32) (n : Fin 1024)
    (hl : l (ix5 b hd p c 0) = BitVec.ofNat 32 n.val) : inside l (ix4 b hd p c) = 1#1 := by
  have hn := n.isLt
  have h0 : IntOp.cmpi .sge (BitVec.ofNat 32 n.val) 0#32 = 1#1 := by
    show BitVec.ofBool (BitVec.sle _ _) = _
    rw [BitVec.sle_eq_decide, toInt_cell, show (0#32 : BitVec 32).toInt = 0 by decide, decide_eq_true (by omega)]
    rfl
  have h1 : IntOp.cmpi .sle (BitVec.ofNat 32 n.val) 1023#32 = 1#1 := by
    show BitVec.ofBool (BitVec.sle _ _) = _
    rw [BitVec.sle_eq_decide, toInt_cell, show (1023#32 : BitVec 32).toInt = 1023 by decide,
      decide_eq_true (by omega)]
    rfl
  pointwise [inside]
  rw [show (Finset.univ : Finset (Fin 1)) = {0} from rfl, Finset.fold_singleton, hl, h0, h1]
  rfl

/-- The map's entry at a cell number. -/
theorem fetched_apply (kf : FVec Ideal S16x3x1024x32 .f32) (l : IVec S16x3x9216x32x1 32) (b : Fin 16) (hd : Fin 3)
    (p : Fin 9216) (c : Fin 32) (n : Fin 1024) (hl : l (ix5 b hd p c 0) = BitVec.ofNat 32 n.val) :
    fetched kf l (ix4 b hd p c) = kf (ix4 b hd n c) := by
  have h1 := inside_apply l b hd p c n hl
  have h2 := gather_apply kf l b hd p c n hl
  pointwise [fetched, h1, h2]

/-- A whole coordinate on the axis is at least 0. -/
theorem ge_first (k : Fin 32) : BitVec.ofBool (decide ((0 : EReal) ≤ ((k.val : ℝ) : EReal))) = 1#1 := by
  rw [decide_eq_true (EReal.coe_nonneg.2 (Nat.cast_nonneg _))]
  rfl

/-- A whole coordinate on the axis is at most 31. -/
theorem le_last (k : Fin 32) : BitVec.ofBool (decide (((k.val : ℝ) : EReal) ≤ ((31 : ℝ) : EReal))) = 1#1 := by
  have hk : (k.val : ℝ) ≤ 31 := by exact_mod_cast Nat.le_of_lt_succ k.isLt
  rw [decide_eq_true (EReal.coe_le_coe_iff.2 hk)]
  rfl

/-- The factor one less the distance, at distance zero. -/
theorem near_one (r : ℝ) : (1 : EReal) - FloatOps.absf (F := Ideal) (φ := .f32) ((r : EReal) - (r : EReal)) = 1 := by
  show (1 : EReal) - max ((r : EReal) - r) (-((r : EReal) - r)) = 1
  rw [← EReal.coe_sub, sub_self, EReal.coe_zero, neg_zero, max_self, sub_zero]

/-- The factor one less the distance, at distance one. -/
theorem far_zero (r : ℝ) : (1 : EReal) - FloatOps.absf (F := Ideal) (φ := .f32) ((r : EReal) - ((r + 1 : ℝ) : EReal)) = 0 := by
  show (1 : EReal) - max ((r : EReal) - ((r + 1 : ℝ) : EReal)) (-((r : EReal) - ((r + 1 : ℝ) : EReal))) = 0
  rw [← EReal.coe_sub, ← EReal.coe_neg, show r - (r + 1) = -1 by ring, neg_neg,
    max_eq_right (EReal.coe_le_coe_iff.2 (by norm_num)), ← EReal.coe_one, ← EReal.coe_sub, sub_self, EReal.coe_zero]

/-- The point's own corner has the weight one. -/
theorem weight_own (h w : IVec S_ 32) (hh : h ix0 = 32#32) (hw : w ix0 = 32#32) (gx gy xc yc : Points) (b : Fin 16)
    (hd : Fin 3) (p : Fin 9216) (c : Fin 32) (x y : Fin 32) (hgx : gx (ix3 b hd p) = ((x.val : ℝ) : EReal))
    (hgy : gy (ix3 b hd p) = ((y.val : ℝ) : EReal)) (hx : xc (ix3 b hd p) = ((x.val : ℝ) : EReal))
    (hy : yc (ix3 b hd p) = ((y.val : ℝ) : EReal)) : weight h w gx gy xc yc (ix4 b hd p c) = 1 := by
  pointwise [weight, hgx, hgy, hx, hy, hh, hw, atAll, last]
  rw [last_word, near_one, near_one, ge_first, ge_first, le_last, le_last, one_mul, one_mul]
  show ((((1#1 : BitVec 1).toNat : ℕ) : ℝ) : EReal) = 1
  norm_num

/-- A corner one cell off along an axis has the weight zero. -/
theorem weight_off (h w : IVec S_ 32) (gx gy xc yc : Points) (b : Fin 16) (hd : Fin 3) (p : Fin 9216) (c : Fin 32)
    (x y : ℝ) (hx : gx (ix3 b hd p) = (x : EReal) ∧ xc (ix3 b hd p) = ((x + 1 : ℝ) : EReal)
      ∨ gy (ix3 b hd p) = (y : EReal) ∧ yc (ix3 b hd p) = ((y + 1 : ℝ) : EReal)) :
    weight h w gx gy xc yc (ix4 b hd p c) = 0 := by
  pointwise [weight, atAll, last]
  rcases hx with ⟨h1, h2⟩ | ⟨h1, h2⟩ <;> rw [h1, h2, far_zero]
  · rw [zero_mul, zero_mul]
  · rw [mul_zero, zero_mul]

/-- A product of arrays at an index, from the factors' values there. -/
theorem mulf_at {s : Shape} (A B : FVec Ideal s .f32) (j : s.Idx) (a b : EReal) (hA : A j = a) (hB : B j = b) :
    mulf A B j = a * b := by
  subst hA hB
  rfl

/-- A sum of arrays at an index, from the terms' values there. -/
theorem addf_at {s : Shape} (A B : FVec Ideal s .f32) (j : s.Idx) (a b : EReal) (hA : A j = a) (hB : B j = b) :
    addf A B j = a + b := by
  subst hA hB
  rfl

/-- The point's own corner is the map's entry at its cell. -/
theorem corner_own (kf : FVec Ideal S16x3x1024x32 .f32) (h w : IVec S_ 32) (hh : h ix0 = 32#32) (hw : w ix0 = 32#32)
    (gx gy xc yc : Points) (b : Fin 16) (hd : Fin 3) (p : Fin 9216) (c : Fin 32) (x y : Fin 32) (n : Fin 1024)
    (hn : n.val = 32 * y.val + x.val) (hgx : gx (ix3 b hd p) = ((x.val : ℝ) : EReal))
    (hgy : gy (ix3 b hd p) = ((y.val : ℝ) : EReal)) (hx : xc (ix3 b hd p) = ((x.val : ℝ) : EReal))
    (hy : yc (ix3 b hd p) = ((y.val : ℝ) : EReal)) :
    corner kf h w gx gy xc yc (ix4 b hd p c) = kf (ix4 b hd n c) := by
  have h0 := cell_apply h w hh hw xc yc b hd p c x y hx hy
  rw [← hn] at h0
  have h1 := weight_own h w hh hw gx gy xc yc b hd p c x y hgx hgy hx hy
  have h2 := fetched_apply kf (wrapped (cell h w xc yc)) b hd p c n (wrapped_apply _ b hd p c n h0)
  rw [corner]
  exact (mulf_at _ _ _ _ _ h2 h1).trans (mul_one (kf (ix4 b hd n c) : EReal))

/-- A corner one cell off along an axis adds nothing, whatever is read there. -/
theorem corner_off (kf : FVec Ideal S16x3x1024x32 .f32) (h w : IVec S_ 32) (gx gy xc yc : Points) (b : Fin 16)
    (hd : Fin 3) (p : Fin 9216) (c : Fin 32) (x y : ℝ)
    (hx : gx (ix3 b hd p) = (x : EReal) ∧ xc (ix3 b hd p) = ((x + 1 : ℝ) : EReal)
      ∨ gy (ix3 b hd p) = (y : EReal) ∧ yc (ix3 b hd p) = ((y + 1 : ℝ) : EReal)) :
    corner kf h w gx gy xc yc (ix4 b hd p c) = 0 := by
  have h1 := weight_off h w gx gy xc yc b hd p c x y hx
  rw [corner]
  exact (mulf_at _ _ _ _ _ rfl h1).trans (mul_zero _)

end Cert.ReferenceIdeal.Sampling

end
-- ==== Proof.Coords.lean ====
/-
  Where the reference samples: with no offsets, every point of a token lies on the token's own cell.
-/
module

public import proofs.«01_k».proof.Proof.Gen.ReferenceIdeal.Run
public import proofs.«01_k».proof.Proof.Corner
public import Idealize.ShloMosaic.Lib.Routing.Words

@[expose] public section

set_option maxRecDepth 16384

noncomputable section

namespace Cert.ReferenceIdeal.Sampling

open Cert.ReferenceIdeal Cert.ReferenceIdeal.Gen Cert.ReferenceIdeal.Value Idealize.ShloMosaic Facts

/-- What the precondition says of the sampling: a 32 by 32 map and no offsets. -/
structure Plain (V : Valuation τ sig (Elt Ideal)) : Prop where
  /-- The map has 32 rows. -/
  rows : V (Proc.devRef .tc main_arg1) ix0 = 32#32
  /-- The map has 32 columns. -/
  cols : V (Proc.devRef .tc main_arg2) ix0 = 32#32
  /-- The offset weights are zero. -/
  weights : ∀ i, V (Proc.devRef .tc main_arg5) i = (0 : EReal)
  /-- The offset biases are zero. -/
  biases : ∀ i, V (Proc.devRef .tc main_arg6) i = (0 : EReal)

/-- The bit pattern of 2. -/
theorem ofBits_two : Ideal.ofBits .f32 0x40000000#32 = ((2 : ℝ) : EReal) := by
  simp [Ideal.ofBits, Ideal.ieee, -EReal.coe_mul]; norm_num

/-- The bit pattern of one half. -/
theorem ofBits_half : Ideal.ofBits .f32 0x3F000000#32 = ((1 / 2 : ℝ) : EReal) := by
  simp [Ideal.ofBits, Ideal.ieee, -EReal.coe_mul]; norm_num

/-- The offset of a point: the tangent of zero, scaled. -/
theorem no_offset (a : EReal) : Ideal.tanh 0 * a = 0 := by
  rw [← EReal.coe_zero, Ideal.tanh_coe, Real.tanh_zero, EReal.coe_zero, zero_mul]

/-- A coordinate on an axis of 32 cells, scaled to between -1 and 1 and back. -/
theorem there_and_back (v : ℝ) :
    (Ideal.div (v : EReal) ((31 : ℝ) : EReal) * ((2 : ℝ) : EReal) - 1 + 1) * ((1 / 2 : ℝ) : EReal) * ((31 : ℝ) : EReal)
      = (v : EReal) := by
  rw [Ideal.div_coe (by norm_num), ← EReal.coe_one]
  simp only [← EReal.coe_mul, ← EReal.coe_sub, ← EReal.coe_add]
  congr 1
  ring

/-- A word below 1024 as a float. -/
theorem float_word (n : ℕ) (hn : n < 1024) : (FloatOps.sitofp .f32 (BitVec.ofNat 32 n) : Ideal .f32) = ((n : ℝ) : EReal) := by
  show ((((BitVec.ofNat 32 n).toInt : ℤ) : ℝ) : EReal) = _
  rw [toInt_cell ⟨n, hn⟩]
  norm_num

/-- A selection whose test is a conjunction with a false first part. -/
theorem select_first {α : Type} (t : BitVec 1) (a b : α) : Scalar.select (IntOp.andi 0#1 t) a b = b := by
  rw [show IntOp.andi 0#1 t = 0#1 from BitVec.zero_and]
  rfl

/-- A selection whose test is a conjunction with a false second part. -/
theorem select_second {α : Type} (t : BitVec 1) (a b : α) : Scalar.select (IntOp.andi t 0#1) a b = b := by
  rw [show IntOp.andi t 0#1 = 0#1 from BitVec.and_zero]
  rfl

/-- The numbers of the tokens. -/
theorem v27_apply (V : Valuation τ sig (Elt Ideal)) (n : Fin 1024) : res_main_v27 V (ix1 n) = BitVec.ofNat 32 n.val := by
  pointwise [res_main_v27]

/-- The divisor of the column: the number of columns, which is not zero. -/
theorem call0_v1_apply (V : Valuation τ sig (Elt Ideal)) (hV : Plain V) : res_main_call0_v1 V ix0 = 32#32 := by
  have e2 := hV.cols
  pointwise [res_main_call0_v1, e2]
  rfl

/-- The remainder of a token's number by the number of columns. -/
theorem call0_v3_apply (V : Valuation τ sig (Elt Ideal)) (hV : Plain V) (n : Fin 1024) :
    res_main_call0_v3 V (ix1 n) = BitVec.ofNat 32 (n.val % 32) := by
  have e := call0_v1_apply V hV
  have e' := v27_apply V n
  have := n.isLt
  pointwise [res_main_call0_v3, e, e']
  exact Routing.remsi_word .host (by omega) (by omega) (by omega)

/-- The quotient of a token's number by the number of columns. -/
theorem call1_v1_apply (V : Valuation τ sig (Elt Ideal)) (hV : Plain V) (n : Fin 1024) :
    res_main_call1_v1 V (ix1 n) = BitVec.ofNat 32 (n.val / 32) := by
  have e := hV.cols
  have e' := v27_apply V n
  have := n.isLt
  pointwise [res_main_call1_v1, e, e']
  exact Routing.divsi_word .host (by omega) (by omega) (by omega)

/-- The token a sampled point belongs to. -/
def token (p : Fin 9216) : Fin 1024 := ⟨p.val / 9, by omega⟩

/-- The horizontal coordinate of a sampled point is its token's column. -/
theorem v63_apply (V : Valuation τ sig (Elt Ideal)) (hV : Plain V) (b : Fin 16) (hd : Fin 3) (p : Fin 9216) :
    res_main_v63 V (ix3 b hd p) = ((((token p).val % 32 : ℕ) : ℝ) : EReal) := by
  have e1 := hV.rows
  have e2 := hV.cols
  have e3 := hV.weights
  have e4 := hV.biases
  have e5 := call0_v1_apply V hV
  have e6 : res_main_call0_v3 V (ix1 ⟨p.val / 9, _⟩) = _ := call0_v3_apply V hV (token p)
  pointwise [res_main_v63, res_main_v53, e2, e3, e4, e5, e6]
  simp only [mul_zero, Finset.sum_const_zero, add_zero, no_offset]
  rw [not_negative ⟨(token p).val % 32, by omega⟩, show IntOp.cmpi .slt (32#32 : BitVec 32) 0#32 = 0#1 by decide,
    show IntOp.cmpi .ne (0#1 : BitVec 1) 0#1 = 0#1 by decide, select_first, last_word, float_word _ (by omega), ofBits_two,
    ofBits_half]
  exact there_and_back _

/-- The signs of a token's number and of the number of columns agree, unless the number is zero and so a multiple. -/
theorem no_fix {α : Type} (n : Fin 1024) (a b : α) :
    Scalar.select (IntOp.andi
      (IntOp.cmpi .ne (if BitVec.ofNat 32 n.val = 0 then (0 : BitVec 32) else if (BitVec.ofNat 32 n.val).msb = true then -1 else 1)
        (if (32#32 : BitVec 32) = 0 then 0 else if (32#32 : BitVec 32).msb = true then -1 else 1))
      (IntOp.cmpi .ne (IntOp.remsi .host (BitVec.ofNat 32 n.val) 32#32) 0#32)) a b = b := by
  have hn := n.isLt
  by_cases h : n.val = 0
  · rw [h, show IntOp.remsi .host (BitVec.ofNat 32 0) 32#32 = 0#32 from
        Routing.remsi_word .host (a := 0) (b := 32) (by omega) (by omega) (by omega),
      show IntOp.cmpi .ne (0#32 : BitVec 32) 0#32 = 0#1 by decide, select_second]
  · have h0 : BitVec.ofNat 32 n.val ≠ 0 := fun e => h (by
      have := congrArg BitVec.toNat e
      rw [BitVec.toNat_ofNat] at this
      simp at this
      omega)
    have h1 : ¬ (BitVec.ofNat 32 n.val).msb = true := by
      rw [BitVec.msb_eq_decide, BitVec.toNat_ofNat]
      simp
      omega
    rw [if_neg h0, if_neg h1, show IntOp.cmpi .ne (1 : BitVec 32)
      (if (32#32 : BitVec 32) = 0 then 0 else if (32#32 : BitVec 32).msb = true then -1 else 1) = 0#1 by decide, select_first]

/-- The vertical coordinate of a sampled point is its token's row. -/
theorem v73_apply (V : Valuation τ sig (Elt Ideal)) (hV : Plain V) (b : Fin 16) (hd : Fin 3) (p : Fin 9216) :
    res_main_v73 V (ix3 b hd p) = ((((token p).val / 32 : ℕ) : ℝ) : EReal) := by
  have e1 := hV.rows
  have e2 := hV.cols
  have e3 := hV.weights
  have e4 := hV.biases
  have e5 := call1_v1_apply V hV (token p)
  have e6 := v27_apply V (token p)
  unfold token at e5 e6
  pointwise [res_main_v73, res_main_v53, e1, e2, e3, e4, e5, e6]
  simp only [mul_zero, Finset.sum_const_zero, add_zero, no_offset]
  have hp := p.isLt
  rw [no_fix ⟨p.val / 9, by omega⟩, last_word, float_word _ (by omega), ofBits_two, ofBits_half]
  exact there_and_back _

end Cert.ReferenceIdeal.Sampling

end
-- ==== Proof.Sample.lean ====
/-
  What the reference samples: the four corners of a point add up to the map's entry at the point's own token.
-/
module

public import proofs.«01_k».proof.Proof.Coords

@[expose] public section

set_option maxRecDepth 16384

noncomputable section

namespace Cert.ReferenceIdeal.Sampling

open Cert.ReferenceIdeal Cert.ReferenceIdeal.Gen Cert.ReferenceIdeal.Value Idealize.ShloMosaic Facts

/-- A corner's coordinate: the coordinate's floor, and 0 or 1 more. -/
def shifted (g : Points) (k : BitVec 32) : Points := addf (Host.floor g) (atAll (constant S_ .f32 k))

/-- The bilinear sampling of a map at the coordinates `gx`, `gy`: zero and the four corners around each point. -/
def sample (kf : FVec Ideal S16x3x1024x32 .f32) (h w : IVec S_ 32) (gx gy : Points) : FVec Ideal S16x3x9216x32 .f32 :=
  addf (addf (addf (addf (broadcastInDim S16x3x9216x32 ![] bcast_S_S16x3x9216x32 (constant S_ .f32 0x00000000#32))
    (corner kf h w gx gy (shifted gx 0x00000000#32) (shifted gy 0x00000000#32)))
    (corner kf h w gx gy (shifted gx 0x00000000#32) (shifted gy 0x3F800000#32)))
    (corner kf h w gx gy (shifted gx 0x3F800000#32) (shifted gy 0x00000000#32)))
    (corner kf h w gx gy (shifted gx 0x3F800000#32) (shifted gy 0x3F800000#32))

/-- The corner coordinate that is the floor itself, at a whole coordinate. -/
theorem shifted_zero (g : Points) (b : Fin 16) (hd : Fin 3) (p : Fin 9216) (k : ℕ) (hg : g (ix3 b hd p) = ((k : ℝ) : EReal)) :
    shifted g 0x00000000#32 (ix3 b hd p) = ((k : ℝ) : EReal) := by
  pointwise [shifted, atAll, hg]
  show ((⌊(k : ℝ)⌋ : ℝ) : EReal) = _
  rw [Int.floor_natCast, Int.cast_natCast]

/-- The corner coordinate that is one more than the floor, at a whole coordinate. -/
theorem shifted_one (g : Points) (b : Fin 16) (hd : Fin 3) (p : Fin 9216) (k : ℕ) (hg : g (ix3 b hd p) = ((k : ℝ) : EReal)) :
    shifted g 0x3F800000#32 (ix3 b hd p) = ((k + 1 : ℝ) : EReal) := by
  pointwise [shifted, atAll, hg]
  show ((⌊(k : ℝ)⌋ : ℝ) : EReal) + 1 = _
  rw [Int.floor_natCast, Int.cast_natCast, ← EReal.coe_one, ← EReal.coe_add]

/-- At a point on its token's own cell the sampling is the map's entry at the token. -/
theorem sample_apply (kf : FVec Ideal S16x3x1024x32 .f32) (h w : IVec S_ 32) (hh : h ix0 = 32#32) (hw : w ix0 = 32#32)
    (gx gy : Points) (b : Fin 16) (hd : Fin 3) (p : Fin 9216) (c : Fin 32)
    (hx : gx (ix3 b hd p) = ((((token p).val % 32 : ℕ) : ℝ) : EReal))
    (hy : gy (ix3 b hd p) = ((((token p).val / 32 : ℕ) : ℝ) : EReal)) :
    sample kf h w gx gy (ix4 b hd p c) = kf (ix4 b hd (token p) c) := by
  have hp := (token p).isLt
  have x0 := shifted_zero gx b hd p _ hx
  have x1 := shifted_one gx b hd p _ hx
  have y0 := shifted_zero gy b hd p _ hy
  have y1 := shifted_one gy b hd p _ hy
  have c00 := corner_own kf h w hh hw gx gy (shifted gx 0x00000000#32) (shifted gy 0x00000000#32) b hd p c
    ⟨(token p).val % 32, by omega⟩ ⟨(token p).val / 32, by omega⟩ (token p) (by show (token p).val = 32 * (_ / 32) + _ % 32; omega)
    hx hy x0 y0
  have c01 := corner_off kf h w gx gy (shifted gx 0x00000000#32) (shifted gy 0x3F800000#32) b hd p c 0 _ (Or.inr ⟨hy, y1⟩)
  have c10 := corner_off kf h w gx gy (shifted gx 0x3F800000#32) (shifted gy 0x00000000#32) b hd p c _ 0 (Or.inl ⟨hx, x1⟩)
  have c11 := corner_off kf h w gx gy (shifted gx 0x3F800000#32) (shifted gy 0x3F800000#32) b hd p c _ 0 (Or.inl ⟨hx, x1⟩)
  have z : broadcastInDim S16x3x9216x32 ![] bcast_S_S16x3x9216x32 (constant (F := Ideal) S_ .f32 0x00000000#32) (ix4 b hd p c)
      = (0 : EReal) := by
    pointwise []
  rw [sample]
  refine (addf_at _ _ _ _ _ (addf_at _ _ _ _ _ (addf_at _ _ _ _ _ (addf_at _ _ _ _ _ z c00) c01) c10) c11).trans ?_
  rw [zero_add, add_zero, add_zero, add_zero]

end Cert.ReferenceIdeal.Sampling

end
-- ==== Proof.Attention.lean ====
/-
  The reference's attention at one token: every point's logit is the same, so the weights are one ninth each and the
  attended value is the token's own.
-/
module

public import proofs.«01_k».proof.Proof.Sample
public import proofs.«01_k».proof.Proof.Spec

@[expose] public section

set_option maxRecDepth 16384

noncomputable section

namespace Cert.ReferenceIdeal.Sampling

open Cert.ReferenceIdeal Cert.ReferenceIdeal.Gen Cert.ReferenceIdeal.Value Idealize.ShloMosaic Facts
  Idealize.ShloMosaic.TcCoe Idealize.SL.Sem Idealize.ShloMosaic.StableHlo

/-- The queries, one vector per head and token. -/
def queries (V : Valuation τ sig (Elt Ideal)) : FVec Ideal S16x3x1024x32 .f32 :=
  transpose S16x3x1024x32 [0, 2, 1, 3] (shapeCast _ (addf (Host.dotGeneral (φ₁ := .f32) (φ₂ := .f32) dot_S16x1024x96_S96x96_S16x1024x96_2_0_01_1_n_n none (V (Proc.devRef .tc main_arg0)) (transpose S96x96 [1, 0] (V (Proc.devRef .tc main_arg3)) transposes_S96x96_S96x96_1_0)) (broadcastInDim S16x1024x96 ![0, 1, 2] bcast_S1x1x96_S16x1024x96_0_1_2 (broadcastInDim S1x1x96 ![2] bcast_S96_S1x1x96_2 (V (Proc.devRef .tc main_arg4))))) shapeCasts_S16x1024x96_S16x1024x3x32) transposes_S16x1024x3x32_S16x3x1024x32_0_2_1_3

/-- A map sampled at the reference's coordinates, nine points to a token. -/
def points (V : Valuation τ sig (Elt Ideal)) (kf : FVec Ideal S16x3x1024x32 .f32) : FVec Ideal S16x3x1024x9x32 .f32 :=
  shapeCast _ (sample kf (V (Proc.devRef .tc main_arg1)) (V (Proc.devRef .tc main_arg2)) (res_main_v63 V) (res_main_v73 V))
    shapeCasts_S16x3x9216x32_S16x3x1024x9x32

/-- The logits: queries against sampled keys, scaled. -/
def logits (V : Valuation τ sig (Elt Ideal)) : FVec Ideal S16x3x1024x9 .f32 :=
  mulf (Host.dotGeneral dot_S16x3x1024x32_S16x3x1024x9x32_S16x3x1024x9_3_4_n_3_012_012 none (queries V) (points V (res_main_v24 V)))
    (broadcastInDim S16x3x1024x9 ![] bcast_S_S16x3x1024x9 (constant S_ .f32 0x3E3504F3#32))

/-- The normalised weights of the nine points. -/
def weights (V : Valuation τ sig (Elt Ideal)) : FVec Ideal S16x3x1024x9 .f32 :=
  Host.divf (res_main_v459 V) (broadcastInDim S16x3x1024x9 ![0, 1, 2, 3] bcast_S16x3x1024x1_S16x3x1024x9_0_1_2_3 (broadcastInDim S16x3x1024x1 ![0, 1, 2] bcast_S16x3x1024_S16x3x1024x1_0_1_2 (Host.reduceAdd (res_main_v459 V) (constant S_ .f32 0x00000000#32) reducesTo_S16x3x1024x9_S16x3x1024_d3 h_S_)))

/-- The weighted sum of the sampled values. -/
def attended (V : Valuation τ sig (Elt Ideal)) : FVec Ideal S16x3x1024x32 .f32 :=
  Host.dotGeneral dot_S16x3x1024x9_S16x3x1024x9x32_S16x3x1024x32_3_3_n_4_012_012 none (weights V) (points V (res_main_v26 V))

/-- The reference's result: the heads side by side, projected. -/
def output (V : Valuation τ sig (Elt Ideal)) : FVec Ideal S16x1024x96 .f32 :=
  addf (Host.dotGeneral (φ₁ := .f32) (φ₂ := .f32) dot_S16x1024x96_S96x96_S16x1024x96_2_0_01_1_n_n none (shapeCast _ (transpose S16x1024x3x32 [0, 2, 1, 3] (attended V) transposes_S16x3x1024x32_S16x1024x3x32_0_2_1_3) shapeCasts_S16x1024x3x32_S16x1024x96) (transpose S96x96 [1, 0] (V (Proc.devRef .tc main_arg9)) transposes_S96x96_S96x96_1_0)) (broadcastInDim S16x1024x96 ![0, 1, 2] bcast_S1x1x96_S16x1024x96_0_1_2 (broadcastInDim S1x1x96 ![2] bcast_S96_S1x1x96_2 (V (Proc.devRef .tc main_arg10))))

/-- The printed logits are these. -/
theorem logits_eq (V : Valuation τ sig (Elt Ideal)) : res_main_v452 V = logits V := rfl

/-- Every run of the reference leaves `output` of its arguments, and the arguments. -/
theorem run_output (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v471) = output (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  Cert.ReferenceIdeal.Value.run m ρ

/-- The token a point of `points` is read at, with its row-major number. -/
theorem points_apply (V : Valuation τ sig (Elt Ideal)) (hV : Plain V) (kf : FVec Ideal S16x3x1024x32 .f32) (b : Fin 16) (hd : Fin 3)
    (n : Fin 1024) (p : Fin 9) (c : Fin 32) : points V kf (ix5 b hd n p c) = kf (ix4 b hd n c) := by
  have hp : token ⟨n.val * 9 + p.val, by omega⟩ = n := Fin.ext (by show (n.val * 9 + p.val) / 9 = n.val; omega)
  have e := sample_apply kf _ _ hV.rows hV.cols _ _ b hd ⟨n.val * 9 + p.val, by omega⟩ c (v63_apply V hV b hd _) (v73_apply V hV b hd _)
  rw [hp] at e
  rw [← e]
  pointwise [points]

/-- An extended real that is a real number. -/
def IsReal (a : EReal) : Prop := ∃ r : ℝ, a = (r : EReal)

/-- A sum of two reals is real. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- A product of two reals is real. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A finite sum of reals is real. -/
theorem IsReal.sum {n : ℕ} {f : Fin n → EReal} (hf : ∀ k, IsReal (f k)) : IsReal (∑ k, f k) :=
  Finset.sum_induction f IsReal (fun _ _ => IsReal.add) ⟨0, EReal.coe_zero.symm⟩ fun k _ => hf k

/-- What the precondition says of the arguments: besides `Plain`, zero biases on the values and on the result, and finite
    queries and keys. -/
structure Zeroed (V : Valuation τ sig (Elt Ideal)) : Prop extends Plain V where
  /-- The tokens are finite. -/
  x : ∀ i, IsReal (V (Proc.devRef .tc main_arg0) i)
  /-- The query weights are finite. -/
  wq : ∀ i, IsReal (V (Proc.devRef .tc main_arg3) i)
  /-- The query biases are finite. -/
  bq : ∀ i, IsReal (V (Proc.devRef .tc main_arg4) i)
  /-- The key rows of the key/value weights are finite. -/
  wk : ∀ (e k : Fin 96), IsReal (V (Proc.devRef .tc main_arg7) (ix2 ⟨e.val, by omega⟩ k))
  /-- The key part of the key/value biases is finite. -/
  bk : ∀ e : Fin 96, IsReal (V (Proc.devRef .tc main_arg8) (ix1 ⟨e.val, by omega⟩))
  /-- The value part of the key/value biases is zero. -/
  bv : ∀ e : Fin 96, V (Proc.devRef .tc main_arg8) (ix1 ⟨96 + e.val, by omega⟩) = (0 : EReal)
  /-- The output biases are zero. -/
  bo : ∀ o : Fin 96, V (Proc.devRef .tc main_arg10) (ix1 o) = (0 : EReal)

/-- The bit pattern of the logits' scale is a real. -/
theorem scale_real : IsReal (Ideal.ofBits .f32 0x3E3504F3#32) := by
  refine ⟨11863283 / 67108864, ?_⟩
  simp [Ideal.ofBits, Ideal.ieee, -EReal.coe_mul]; norm_num

/-- The bit pattern of minus infinity. -/
theorem ofBits_bot : Ideal.ofBits .f32 0xFF800000#32 = (⊥ : EReal) := by
  simp [Ideal.ofBits, Ideal.ieee]

/-- The queries are finite. -/
theorem queries_real (V : Valuation τ sig (Elt Ideal)) (hV : Zeroed V) (b : Fin 16) (hd : Fin 3) (n : Fin 1024) (c : Fin 32) :
    IsReal (queries V (ix4 b hd n c)) := by
  pointwise [queries]
  exact (IsReal.sum fun k => (hV.x _).mul (hV.wq _)).add (hV.bq _)

/-- The keys are finite. -/
theorem keys_real (V : Valuation τ sig (Elt Ideal)) (hV : Zeroed V) (b : Fin 16) (hd : Fin 3) (n : Fin 1024) (c : Fin 32) :
    IsReal (res_main_v24 V (ix4 b hd n c)) := by
  pointwise [res_main_v24, res_main_v20]
  exact (IsReal.sum fun k => (hV.x _).mul (hV.wk ⟨hd.val * 32 + c.val, by omega⟩ k)).add (hV.bk ⟨hd.val * 32 + c.val, by omega⟩)

/-- The value map at a head and channel is the value row at that feature. -/
theorem values_apply (V : Valuation τ sig (Elt Ideal)) (hV : Zeroed V) (b : Fin 16) (hd : Fin 3) (n : Fin 1024) (c : Fin 32) :
    res_main_v26 V (ix4 b hd n c) = Spec.valueRow (V (Proc.devRef .tc main_arg0)) (V (Proc.devRef .tc main_arg7)) b n
      ⟨hd.val * 32 + c.val, by omega⟩ := by
  have e := hV.bv ⟨hd.val * 32 + c.val, by omega⟩
  pointwise [res_main_v26, res_main_v20, Spec.valueRow, e]

/-- The logit of every point of a token is one and the same real number. -/
theorem logits_apply (V : Valuation τ sig (Elt Ideal)) (hV : Zeroed V) (b : Fin 16) (hd : Fin 3) (n : Fin 1024) :
    ∃ r : ℝ, ∀ p : Fin 9, logits V (ix4 b hd n p) = (r : EReal) := by
  obtain ⟨r, hr⟩ := (IsReal.sum fun c => (queries_real V hV b hd n c).mul (keys_real V hV b hd n c)).mul scale_real
  refine ⟨r, fun p => ?_⟩
  have e := points_apply V hV.toPlain
  rw [← hr]
  pointwise [logits, e]

/-- The largest of a nonempty family of equal numbers. -/
theorem fold_max_const {ι : Type} (s : Finset ι) (f : ι → EReal) (a : EReal) (hs : s.Nonempty)
    (hf : ∀ i ∈ s, f i = a) : Finset.fold max ⊥ f s = a := by
  rw [Finset.fold_congr hf]
  exact Finset.sup_const hs a

/-- The indices reduced to one: those with its first three coordinates. -/
theorem dropped (i : S16x3x1024x9.Idx) (b : Fin 16) (hd : Fin 3) (n : Fin 1024)
    (h : reducesTo_S16x3x1024x9_S16x3x1024_d3.drop i = ix3 b hd n) : ∃ p : Fin 9, i = ix4 b hd n p := by
  idx_vars i
  have h0 : i0 = b := congrFun h 0
  have h1 : i1 = hd := congrFun h 1
  have h2 : i2 = n := congrFun h 2
  exact ⟨i3, by rw [h0, h1, h2]⟩

/-- Every point's exponential is one: its logit is the largest. -/
theorem v459_apply (V : Valuation τ sig (Elt Ideal)) (hV : Zeroed V) (b : Fin 16) (hd : Fin 3) (n : Fin 1024) (p : Fin 9) :
    res_main_v459 V (ix4 b hd n p) = (1 : EReal) := by
  have e := logits_eq V
  obtain ⟨r, hr⟩ := logits_apply V hV b hd n
  pointwise [res_main_v459, e]
  rw [ofBits_bot, fold_max_const _ (logits V) (r : EReal) ⟨ix4 b hd n 0, ?_⟩ fun i hi => ?_, hr, max_eq_right bot_le,
    ← EReal.coe_sub, sub_self, EReal.coe_zero, ← EReal.coe_zero, Ideal.exp_coe, Real.exp_zero, EReal.coe_one]
  · rw [Finset.mem_filter]
    refine ⟨Finset.mem_univ _, ?_⟩
    funext a
    fin_cases a <;> rfl
  · obtain ⟨q, rfl⟩ := dropped i b hd n (Finset.mem_filter.1 hi).2
    exact hr q

/-- Every point's weight is one ninth. -/
theorem weights_apply (V : Valuation τ sig (Elt Ideal)) (hV : Zeroed V) (b : Fin 16) (hd : Fin 3) (n : Fin 1024) (p : Fin 9) :
    weights V (ix4 b hd n p) = ((1 / 9 : ℝ) : EReal) := by
  have e := v459_apply V hV b hd n
  pointwise [weights, e]
  rw [Finset.sum_const, Finset.card_univ, Fintype.card_fin, EReal.nsmul_eq_mul, mul_one,
    show ((9 : ℕ) : EReal) = ((9 : ℝ) : EReal) by norm_cast, Ideal.div_coe (by norm_num), one_mul]

/-- Nine ninths of an extended real, infinite ones too. -/
theorem nine_ninths (a : EReal) : ∑ _p : Fin 9, ((1 / 9 : ℝ) : EReal) * a = a := by
  rw [Finset.sum_const, Finset.card_univ, Fintype.card_fin, EReal.nsmul_eq_mul,
    show ((9 : ℕ) : EReal) = ((9 : ℝ) : EReal) by norm_cast, ← mul_assoc, ← EReal.coe_mul,
    show (9 : ℝ) * (1 / 9) = 1 by norm_num, EReal.coe_one, one_mul]

/-- The attended value of a token is its own value row. -/
theorem attended_apply (V : Valuation τ sig (Elt Ideal)) (hV : Zeroed V) (b : Fin 16) (hd : Fin 3) (n : Fin 1024) (c : Fin 32) :
    attended V (ix4 b hd n c) = Spec.valueRow (V (Proc.devRef .tc main_arg0)) (V (Proc.devRef .tc main_arg7)) b n
      ⟨hd.val * 32 + c.val, by omega⟩ := by
  have e := points_apply V hV.toPlain
  have e' := weights_apply V hV b hd n
  rw [← values_apply V hV b hd n c, ← nine_ninths (res_main_v26 V (ix4 b hd n c))]
  pointwise [attended, e, e']

/-- The reference's result is the value rows under the output projection. -/
theorem output_eq (V : Valuation τ sig (Elt Ideal)) (hV : Zeroed V) :
    output V = Spec.projected (V (Proc.devRef .tc main_arg0)) (V (Proc.devRef .tc main_arg7)) (V (Proc.devRef .tc main_arg9)) := by
  funext j
  idx_vars j
  have e := attended_apply V hV
  have e' := hV.bo
  rw [Spec.projected_apply]
  pointwise [output, e, e']
  refine Finset.sum_congr rfl fun k _ => ?_
  rw [show (⟨k.val / 32 * 32 + k.val % 32, by omega⟩ : Fin 96) = k from Fin.ext (by show k.val / 32 * 32 + k.val % 32 = k.val; omega)]

end Cert.ReferenceIdeal.Sampling

end
-- ==== Proof.Precondition.lean ====
/-
  The precondition read: what `zero_initialised` says of the argument arrays, element by element.
-/
module

public import proofs.«01_k».proof.Defs
public import proofs.«01_k».proof.Proof.Attention

@[expose] public section

set_option maxRecDepth 16384

noncomputable section

namespace Cert.ReferenceIdeal.Sampling

open Cert.ReferenceIdeal Idealize.ShloMosaic Idealize.ShloMosaic.TcCoe Idealize.SL.Sem Idealize.ShloMosaic.StableHlo

/-- The shape relations the precondition's operations take. -/
theorem preFacts : Cert.Pre_zero_initialised.Facts where
  bcast_S_S54x96 := by decide
  bcast_S_S54 := by decide
  slices_S192_S96_96 := by decide
  bcast_S_S96 := by decide
  bcast_S_S16x1024x96 := by decide
  bcast_S_S96x96 := by decide
  slices_S192x96_S96x96_0_0 := by decide
  slices_S192_S96_0 := by decide

/-- The bit pattern of plus infinity. -/
theorem ofBits_top : Ideal.ofBits .f32 0x7F800000#32 = (⊤ : EReal) := by
  simp [Ideal.ofBits, Ideal.ieee]

/-- A comparison that answers one against an array of zeros: the element is zero. -/
theorem zero_of_cmpf {S : Shape} {a b : FVec Ideal S .f32} (h : cmpf .oeq a b = fun _ => 1#1) (hb : ∀ i, b i = (0 : EReal))
    (i : S.Idx) : a i = (0 : EReal) := by
  have hi := congrFun h i
  pointwise [hb] at hi
  exact (Idealize.ShloMosaic.WordCmp.ofBool_decide_eq_one_iff _).mp hi

/-- A magnitude below plus infinity: the element is a real. -/
theorem real_of_cmpf {S : Shape} {a b : FVec Ideal S .f32} (h : cmpf .olt (Host.absf a) b = fun _ => 1#1)
    (hb : ∀ i, b i = (⊤ : EReal)) (i : S.Idx) : IsReal (a i) := by
  have hi := congrFun h i
  pointwise [hb] at hi
  have hlt : max (a i : EReal) (-(a i : EReal)) < ⊤ := (Idealize.ShloMosaic.WordCmp.ofBool_decide_eq_one_iff _).mp hi
  have hp : (a i : EReal) ≠ ⊤ := ((le_max_left _ _).trans_lt hlt).ne
  have hn : (a i : EReal) ≠ ⊥ := fun hbot => ((le_max_right _ _).trans_lt hlt).ne (by rw [hbot]; rfl)
  exact ⟨_, (EReal.coe_toReal hp hn).symm⟩

/-- The precondition's ten answers are all ones: the valuation's arguments are zero or finite where the proof needs it. -/
theorem zeroed_of_pre [Cert.Pre_zero_initialised.Facts] (V : Valuation τ sig (Elt Ideal))
    {p : IVec Cert.Pre_zero_initialised.S_ 1 × IVec Cert.Pre_zero_initialised.S54x96 1 × IVec Cert.Pre_zero_initialised.S54 1
      × IVec Cert.Pre_zero_initialised.S96 1 × IVec Cert.Pre_zero_initialised.S96 1
      × IVec Cert.Pre_zero_initialised.S16x1024x96 1 × IVec Cert.Pre_zero_initialised.S96x96 1
      × IVec Cert.Pre_zero_initialised.S96 1 × IVec Cert.Pre_zero_initialised.S96x96 1
      × IVec Cert.Pre_zero_initialised.S96 1}
    (hp : p = Cert.Pre_zero_initialised.fn (F := Ideal) (V (Proc.devRef .tc main_arg0)) (V (Proc.devRef .tc main_arg1))
      (V (Proc.devRef .tc main_arg2)) (V (Proc.devRef .tc main_arg3)) (V (Proc.devRef .tc main_arg4))
      (V (Proc.devRef .tc main_arg5)) (V (Proc.devRef .tc main_arg6)) (V (Proc.devRef .tc main_arg7))
      (V (Proc.devRef .tc main_arg8)) (V (Proc.devRef .tc main_arg9)) (V (Proc.devRef .tc main_arg10)))
    (h : p.1 = (fun _ => 1#1) ∧ p.2.1 = (fun _ => 1#1) ∧ p.2.2.1 = (fun _ => 1#1) ∧ p.2.2.2.1 = (fun _ => 1#1)
      ∧ p.2.2.2.2.1 = (fun _ => 1#1) ∧ p.2.2.2.2.2.1 = (fun _ => 1#1) ∧ p.2.2.2.2.2.2.1 = (fun _ => 1#1)
      ∧ p.2.2.2.2.2.2.2.1 = (fun _ => 1#1) ∧ p.2.2.2.2.2.2.2.2.1 = (fun _ => 1#1)
      ∧ p.2.2.2.2.2.2.2.2.2 = (fun _ => 1#1)) : Zeroed V := by
  subst hp
  obtain ⟨hhw, hwo, hbo, hbv, hout, hx, hwq, hbq, hwk, hbk⟩ := h
  have hmap := congrFun hhw ix0
  simp only [Cert.Pre_zero_initialised.fn, Cert.Pre_zero_initialised.fn_part1] at hmap hwo hbo hbv hout hx hwq hbq hwk hbk
  have hz : ∀ {S : Shape} (hs : Cert.Pre_zero_initialised.S_.BroadcastsInDim S (![] : Fin 0 → Fin S.rank)) (i : S.Idx),
      (broadcastInDim S ![] hs (constant (F := Ideal) Cert.Pre_zero_initialised.S_ .f32 0x00000000#32) : FVec Ideal S .f32) i = (0 : EReal) :=
    fun hs i => by pointwise []
  have ht : ∀ {S : Shape} (hs : Cert.Pre_zero_initialised.S_.BroadcastsInDim S (![] : Fin 0 → Fin S.rank)) (i : S.Idx),
      (broadcastInDim S ![] hs (constant (F := Ideal) Cert.Pre_zero_initialised.S_ .f32 0x7F800000#32) : FVec Ideal S .f32) i = (⊤ : EReal) :=
    fun hs i => by pointwise [ofBits_top]
  pointwise [] at hmap
  have hmap' : V (Proc.devRef .tc main_arg1) ix0 = 32#32 ∧ V (Proc.devRef .tc main_arg2) ix0 = 32#32 := by
    simpa [hlo_ix, IntOp.cmpi] using hmap
  exact
    { rows := hmap'.1
      cols := hmap'.2
      weights := zero_of_cmpf hwo (hz _)
      biases := zero_of_cmpf hbo (hz _)
      x := real_of_cmpf hx (ht _)
      wq := real_of_cmpf hwq (ht _)
      bq := real_of_cmpf hbq (ht _)
      wk := fun e k => by
        have := real_of_cmpf hwk (ht _) (ix2 e k)
        pointwise [] at this
        exact this
      bk := fun e => by
        have := real_of_cmpf hbk (ht _) (ix1 e)
        pointwise [] at this
        exact this
      bv := fun e => by
        have := zero_of_cmpf hbv (hz _) (ix1 e)
        pointwise [] at this
        exact this
      bo := fun o => zero_of_cmpf hout (hz _) (ix1 o) }

end Cert.ReferenceIdeal.Sampling

end
-- ==== Proof.lean ====
/-
  The certificate's claims, assembled: the three frames, the idealization, and the equation of the kernel and the
  reference over the extended reals. What the kernel's result array holds is in Proof/KernelValue.lean, what the
  reference's holds in Proof/Attention.lean, what the precondition says in Proof/Precondition.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.Attention
public import proofs.«01_k».proof.Proof.Precondition
public import Idealize.ShloMosaic.Lib.Claim
public import Idealize.ShloMosaic.Adequacy
public import Idealize.ShloMosaic.Init

@[expose] public section

noncomputable section

namespace Cert.Proof

open Idealize.ShloMosaic Idealize.SL.Sem Idealize.ShloMosaic.StableHlo

/-- The kernel as it runs leaves its arguments as they were and every counter at zero. -/
theorem frame_kernel : Cert.quiescent_Kernel := fun m ρ _ => Cert.Kernel.Gen.frame m ρ

/-- The kernel over the extended reals leaves its arguments as they were and every counter at zero. -/
theorem frame_ideal : Cert.quiescent_KernelIdeal := fun m ρ _ => Cert.KernelIdeal.Gen.frame m ρ

/-- The reference leaves its arguments as they were; it has no semaphores, so there is no counter to be other than zero. -/
theorem frame_reference : Cert.quiescent_ReferenceIdeal := fun m ρ _ =>
  θ_run_mono (Cert.ReferenceIdeal.Sampling.run_output m ρ) fun r hr =>
    ⟨fun c => (hr c).2, sem_eq_zero_of_no_sems rfl r.2⟩

/-- Under the precondition the kernel and the reference end with the same result array: both hold each token's value
    row, projected. -/
theorem algebraic [Cert.Pre_zero_initialised.Facts] :
    Cert.algebraic_KernelIdeal_ReferenceIdeal_pre_zero_initialised := by
  intro m ρ m' ρ' hpre hagree
  refine ⟨Cert.KernelIdeal.Chain.result m, Cert.KernelIdeal.Chain.run m ρ, ?_⟩
  refine θ_run_mono (Cert.ReferenceIdeal.Sampling.run_output m' ρ') fun r hr c => ⟨(hr c).1.trans ?_, (hr c).2⟩
  obtain ⟨h0, h1, h2, h3, h4, h5, h6, h7, h8, h9, h10⟩ := hagree c
  have hc := hpre c
  rw [← h0, ← h1, ← h2, ← h3, ← h4, ← h5, ← h6, ← h7, ← h8, ← h9, ← h10] at hc
  refine (Cert.ReferenceIdeal.Sampling.output_eq _
    (Cert.ReferenceIdeal.Sampling.zeroed_of_pre (launchContents m' c) rfl hc)).trans ?_
  exact congr (congr (congrArg Cert.Spec.projected h0) h7) h9

/-- The claims together. -/
theorem claim : Cert.Claim :=
  ⟨Cert.Kernel.Gen.facts, Cert.KernelIdeal.Gen.facts, Cert.ReferenceIdeal.Gen.facts, Cert.ReferenceIdeal.Sampling.preFacts,
    frame_kernel, frame_ideal, fun m ρ _ => frame_ideal m ρ trivial, frame_reference,
    fun m ρ _ => frame_reference m ρ trivial, trivial,
    @algebraic Cert.ReferenceIdeal.Sampling.preFacts⟩

end Cert.Proof

end
